-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Up_UpIdeal : Prop :=
  True

def preserves_Down_DownIdeal : Prop :=
  True

def preserves_Out_OutIdeal : Prop :=
  True

def preserves_In_InIdeal : Prop :=
  True

def preserves_Post_PostIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v27) = v0 c
          ∧ r.2.mem ((c.tc : Thread Cert.DownReferenceIdeal.nD Cert.DownReferenceIdeal.τ).loc Cert.DownReferenceIdeal.main_v28) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v27) = v0 c
          ∧ r.2.mem ((c.tc : Thread Cert.OutReferenceIdeal.nD Cert.OutReferenceIdeal.τ).loc Cert.OutReferenceIdeal.main_v28) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v2) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v0_1)) (v1 : (c : Dev Cert.PostIdeal.nD) → Buf (Elt Ideal) ((c.tc : Thread Cert.PostIdeal.nD Cert.PostIdeal.τ).loc Cert.PostIdeal.main_v0_2)) (v2 : (c : Dev Cert.PostIdeal.nD) → Buf (Elt Ideal) ((c.tc : Thread Cert.PostIdeal.nD Cert.PostIdeal.τ).loc Cert.PostIdeal.main_v0_5)) (v3 : (c : Dev Cert.PostIdeal.nD) → Buf (Elt Ideal) ((c.tc : Thread Cert.PostIdeal.nD Cert.PostIdeal.τ).loc Cert.PostIdeal.main_v0_9)) (v4 : (c : Dev Cert.PostIdeal.nD) → Buf (Elt Ideal) ((c.tc : Thread Cert.PostIdeal.nD Cert.PostIdeal.τ).loc Cert.PostIdeal.main_v0_10)) (v5 : (c : Dev Cert.PostIdeal.nD) → Buf (Elt Ideal) ((c.tc : Thread Cert.PostIdeal.nD Cert.PostIdeal.τ).loc Cert.PostIdeal.main_v0_14)) (v6 : (c : Dev Cert.PostIdeal.nD) → Buf (Elt Ideal) ((c.tc : Thread Cert.PostIdeal.nD Cert.PostIdeal.τ).loc Cert.PostIdeal.main_v0_16)) (v7 : (c : Dev Cert.PostIdeal.nD) → Buf (Elt Ideal) ((c.tc : Thread Cert.PostIdeal.nD Cert.PostIdeal.τ).loc Cert.PostIdeal.main_v0_3)) (v8 : (c : Dev Cert.PostIdeal.nD) → Buf (Elt Ideal) ((c.tc : Thread Cert.PostIdeal.nD Cert.PostIdeal.τ).loc Cert.PostIdeal.main_v0_4)) (v9 : (c : Dev Cert.PostIdeal.nD) → Buf (Elt Ideal) ((c.tc : Thread Cert.PostIdeal.nD Cert.PostIdeal.τ).loc Cert.PostIdeal.main_v0_11)) (v10 : (c : Dev Cert.PostIdeal.nD) → Buf (Elt Ideal) ((c.tc : Thread Cert.PostIdeal.nD Cert.PostIdeal.τ).loc Cert.PostIdeal.main_v0_12)) (v11 : (c : Dev Cert.PostIdeal.nD) → Buf (Elt Ideal) ((c.tc : Thread Cert.PostIdeal.nD Cert.PostIdeal.τ).loc Cert.PostIdeal.main_v0_13)) (v12 : (c : Dev Cert.PostIdeal.nD) → Buf (Elt Ideal) ((c.tc : Thread Cert.PostIdeal.nD Cert.PostIdeal.τ).loc Cert.PostIdeal.main_v0_15)) (v13 : (c : Dev Cert.PostIdeal.nD) → Buf (Elt Ideal) ((c.tc : Thread Cert.PostIdeal.nD Cert.PostIdeal.τ).loc Cert.PostIdeal.main_v0_7)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_1) = v0 c
          ∧ r.2.mem ((c.tc : Thread Cert.PostIdeal.nD Cert.PostIdeal.τ).loc Cert.PostIdeal.main_v0_2) = v1 c
          ∧ r.2.mem ((c.tc : Thread Cert.PostIdeal.nD Cert.PostIdeal.τ).loc Cert.PostIdeal.main_v0_5) = v2 c
          ∧ r.2.mem ((c.tc : Thread Cert.PostIdeal.nD Cert.PostIdeal.τ).loc Cert.PostIdeal.main_v0_9) = v3 c
          ∧ r.2.mem ((c.tc : Thread Cert.PostIdeal.nD Cert.PostIdeal.τ).loc Cert.PostIdeal.main_v0_10) = v4 c
          ∧ r.2.mem ((c.tc : Thread Cert.PostIdeal.nD Cert.PostIdeal.τ).loc Cert.PostIdeal.main_v0_14) = v5 c
          ∧ r.2.mem ((c.tc : Thread Cert.PostIdeal.nD Cert.PostIdeal.τ).loc Cert.PostIdeal.main_v0_16) = v6 c
          ∧ r.2.mem ((c.tc : Thread Cert.PostIdeal.nD Cert.PostIdeal.τ).loc Cert.PostIdeal.main_v0_3) = v7 c
          ∧ r.2.mem ((c.tc : Thread Cert.PostIdeal.nD Cert.PostIdeal.τ).loc Cert.PostIdeal.main_v0_4) = v8 c
          ∧ r.2.mem ((c.tc : Thread Cert.PostIdeal.nD Cert.PostIdeal.τ).loc Cert.PostIdeal.main_v0_11) = v9 c
          ∧ r.2.mem ((c.tc : Thread Cert.PostIdeal.nD Cert.PostIdeal.τ).loc Cert.PostIdeal.main_v0_12) = v10 c
          ∧ r.2.mem ((c.tc : Thread Cert.PostIdeal.nD Cert.PostIdeal.τ).loc Cert.PostIdeal.main_v0_13) = v11 c
          ∧ r.2.mem ((c.tc : Thread Cert.PostIdeal.nD Cert.PostIdeal.τ).loc Cert.PostIdeal.main_v0_15) = v12 c
          ∧ r.2.mem ((c.tc : Thread Cert.PostIdeal.nD Cert.PostIdeal.τ).loc Cert.PostIdeal.main_v0_7) = v13 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v0) = v0 c
          ∧ r.2.mem ((c.tc : Thread Cert.PostReferenceIdeal.nD Cert.PostReferenceIdeal.τ).loc Cert.PostReferenceIdeal.main_v1) = v1 c
          ∧ r.2.mem ((c.tc : Thread Cert.PostReferenceIdeal.nD Cert.PostReferenceIdeal.τ).loc Cert.PostReferenceIdeal.main_v8) = v2 c
          ∧ r.2.mem ((c.tc : Thread Cert.PostReferenceIdeal.nD Cert.PostReferenceIdeal.τ).loc Cert.PostReferenceIdeal.main_v2) = v3 c
          ∧ r.2.mem ((c.tc : Thread Cert.PostReferenceIdeal.nD Cert.PostReferenceIdeal.τ).loc Cert.PostReferenceIdeal.main_v3) = v4 c
          ∧ r.2.mem ((c.tc : Thread Cert.PostReferenceIdeal.nD Cert.PostReferenceIdeal.τ).loc Cert.PostReferenceIdeal.main_v34) = v5 c
          ∧ r.2.mem ((c.tc : Thread Cert.PostReferenceIdeal.nD Cert.PostReferenceIdeal.τ).loc Cert.PostReferenceIdeal.main_v47) = v6 c
          ∧ r.2.mem ((c.tc : Thread Cert.PostReferenceIdeal.nD Cert.PostReferenceIdeal.τ).loc Cert.PostReferenceIdeal.main_v55) = v7 c
          ∧ r.2.mem ((c.tc : Thread Cert.PostReferenceIdeal.nD Cert.PostReferenceIdeal.τ).loc Cert.PostReferenceIdeal.main_v56) = v8 c
          ∧ r.2.mem ((c.tc : Thread Cert.PostReferenceIdeal.nD Cert.PostReferenceIdeal.τ).loc Cert.PostReferenceIdeal.main_v57) = v9 c
          ∧ r.2.mem ((c.tc : Thread Cert.PostReferenceIdeal.nD Cert.PostReferenceIdeal.τ).loc Cert.PostReferenceIdeal.main_v58) = v10 c
          ∧ r.2.mem ((c.tc : Thread Cert.PostReferenceIdeal.nD Cert.PostReferenceIdeal.τ).loc Cert.PostReferenceIdeal.main_v59) = v11 c
          ∧ r.2.mem ((c.tc : Thread Cert.PostReferenceIdeal.nD Cert.PostReferenceIdeal.τ).loc Cert.PostReferenceIdeal.main_v60) = v12 c
          ∧ r.2.mem ((c.tc : Thread Cert.PostReferenceIdeal.nD Cert.PostReferenceIdeal.τ).loc Cert.PostReferenceIdeal.main_v54) = v13 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hOut : Cert.Out.Facts) (hOutIdeal : Cert.OutIdeal.Facts) (hOutReferenceIdeal : Cert.OutReferenceIdeal.Facts) (hIn : Cert.In.Facts) (hInIdeal : Cert.InIdeal.Facts) (hInReferenceIdeal : Cert.InReferenceIdeal.Facts) (hPost : Cert.Post.Facts) (hPostIdeal : Cert.PostIdeal.Facts) (hPostReferenceIdeal : Cert.PostReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Out (hOut := hOut)
    ∧ quiescent_OutIdeal (hOutIdeal := hOutIdeal)
    ∧ quiescent_OutReferenceIdeal (hOutReferenceIdeal := hOutReferenceIdeal)
    ∧ quiescent_In (hIn := hIn)
    ∧ quiescent_InIdeal (hInIdeal := hInIdeal)
    ∧ quiescent_InReferenceIdeal (hInReferenceIdeal := hInReferenceIdeal)
    ∧ quiescent_Post (hPost := hPost)
    ∧ quiescent_PostIdeal (hPostIdeal := hPostIdeal)
    ∧ quiescent_PostReferenceIdeal (hPostReferenceIdeal := hPostReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ preserves_Down_DownIdeal
    ∧ preserves_Out_OutIdeal
    ∧ preserves_In_InIdeal
    ∧ preserves_Post_PostIdeal
    ∧ algebraic_UpIdeal_UpReferenceIdeal (hUpIdeal := hUpIdeal) (hUpReferenceIdeal := hUpReferenceIdeal)
    ∧ algebraic_DownIdeal_DownReferenceIdeal (hDownIdeal := hDownIdeal) (hDownReferenceIdeal := hDownReferenceIdeal)
    ∧ algebraic_OutIdeal_OutReferenceIdeal (hOutIdeal := hOutIdeal) (hOutReferenceIdeal := hOutReferenceIdeal)
    ∧ algebraic_InIdeal_InReferenceIdeal (hInIdeal := hInIdeal) (hInReferenceIdeal := hInReferenceIdeal)
    ∧ algebraic_PostIdeal_PostReferenceIdeal (hPostIdeal := hPostIdeal) (hPostReferenceIdeal := hPostReferenceIdeal)
-- ==== Pre_finite.lean ====
abbrev S8x8704x512 : Shape := ⟨3, ![8, 8704, 512]⟩
abbrev S8x8704x128 : Shape := ⟨3, ![8, 8704, 128]⟩
abbrev S8704x512 : Shape := ⟨2, ![8704, 512]⟩
abbrev S8704x128 : Shape := ⟨2, ![8704, 128]⟩
abbrev S8x512x128 : Shape := ⟨3, ![8, 512, 128]⟩
abbrev S1x1024 : Shape := ⟨2, ![1, 1024]⟩
abbrev S8x8192x512 : Shape := ⟨3, ![8, 8192, 512]⟩
abbrev S_ : Shape := ⟨0, ![]⟩
abbrev S8x8192x128 : Shape := ⟨3, ![8, 8192, 128]⟩
abbrev S8192x512 : Shape := ⟨2, ![8192, 512]⟩
abbrev S8192x128 : Shape := ⟨2, ![8192, 128]⟩

class Facts : Prop where
  slices_S8x8704x512_S8x8192x512_0_0_0 : S8x8704x512.Slices ![0, 0, 0] S8x8192x512
  bitsLt_bf16_f32 : FTy.bits .bf16 < FTy.bits .f32
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  slices_S8x8704x128_S8x8192x128_0_0_0 : S8x8704x128.Slices ![0, 0, 0] S8x8192x128
  bcast_S_S8x8192x128 : S_.BroadcastsInDim S8x8192x128 (![] : Fin 0 → Fin S8x8192x128.rank)
  reducesTo_S8x8192x128_S_d0_1_2 : S8x8192x128.ReducesTo [0, 1, 2] S_
  slices_S8704x512_S8192x512_0_0 : S8704x512.Slices ![0, 0] S8192x512
  bcast_S_S8192x512 : S_.BroadcastsInDim S8192x512 (![] : Fin 0 → Fin S8192x512.rank)
  reducesTo_S8192x512_S_d0_1 : S8192x512.ReducesTo [0, 1] S_
  slices_S8704x128_S8192x128_0_0 : S8704x128.Slices ![0, 0] S8192x128
  bcast_S_S8192x128 : S_.BroadcastsInDim S8192x128 (![] : Fin 0 → Fin S8192x128.rank)
  reducesTo_S8192x128_S_d0_1 : S8192x128.ReducesTo [0, 1] S_

variable [Facts]

def fn_part1 {F : FTy → Type} [FloatOps F] (main_arg3 : FVec F S8704x128 .bf16) (main_v12 : IVec S_ 1) (main_v17 : IVec S8192x512 1) (main_c_3 : IVec S_ 1) : IVec S_ 1 :=
  let main_v18 : IVec S_ 1 := (fun x v => Host.reduce IntOp.andi x v reducesTo_S8192x512_S_d0_1 h_S_) main_v17 main_c_3
  let main_v19 : IVec S_ 1 := andi main_v12 main_v18
  let main_v20 : FVec F S8192x128 .bf16 := (extractStridedSlice S8192x128 ![0, 0] · slices_S8704x128_S8192x128_0_0) main_arg3
  let main_v21 : FVec F S8192x128 .f32 := (extf .f32 · bitsLt_bf16_f32) main_v20
  let main_v22 : FVec F S8192x128 .f32 := Host.absf main_v21
  let main_cst_4 : FVec F S_ .f32 := constant S_ .f32 0x7F800000#32
  let main_v23 : FVec F S8192x128 .f32 := broadcastInDim S8192x128 ![] bcast_S_S8192x128 main_cst_4
  let main_v24 : IVec S8192x128 1 := cmpf .olt main_v22 main_v23
  let main_c_5 : IVec S_ 1 := constantI S_ 1 1#1
  let main_v25 : IVec S_ 1 := (fun x v => Host.reduce IntOp.andi x v reducesTo_S8192x128_S_d0_1 h_S_) main_v24 main_c_5
  let main_v26 : IVec S_ 1 := andi main_v19 main_v25
  main_v26

def fn {F : FTy → Type} [FloatOps F] (main_arg0 : FVec F S8x8704x512 .bf16) (main_arg1 : FVec F S8x8704x128 .bf16) (main_arg2 : FVec F S8704x512 .bf16) (main_arg3 : FVec F S8704x128 .bf16) (main_arg4 : FVec F S8x512x128 .bf16) (main_arg5 : FVec F S1x1024 .f32) : IVec S_ 1 :=
  let main_v0 : FVec F S8x8192x512 .bf16 := (extractStridedSlice S8x8192x512 ![0, 0, 0] · slices_S8x8704x512_S8x8192x512_0_0_0) main_arg0
  let main_v1 : FVec F S8x8192x512 .f32 := (extf .f32 · bitsLt_bf16_f32) main_v0
  let main_v2 : FVec F S8x8192x512 .f32 := Host.absf main_v1
  let main_cst : FVec F S_ .f32 := constant S_ .f32 0x7F800000#32
  let main_v3 : FVec F S8x8192x512 .f32 := broadcastInDim S8x8192x512 ![] bcast_S_S8x8192x512 main_cst
  let main_v4 : IVec S8x8192x512 1 := cmpf .olt main_v2 main_v3
  let main_c : IVec S_ 1 := constantI S_ 1 1#1
  let main_v5 : IVec S_ 1 := (fun x v => Host.reduce IntOp.andi x v reducesTo_S8x8192x512_S_d0_1_2 h_S_) main_v4 main_c
  let main_v6 : FVec F S8x8192x128 .bf16 := (extractStridedSlice S8x8192x128 ![0, 0, 0] · slices_S8x8704x128_S8x8192x128_0_0_0) main_arg1
  let main_v7 : FVec F S8x8192x128 .f32 := (extf .f32 · bitsLt_bf16_f32) main_v6
  let main_v8 : FVec F S8x8192x128 .f32 := Host.absf main_v7
  let main_cst_0 : FVec F S_ .f32 := constant S_ .f32 0x7F800000#32
  let main_v9 : FVec F S8x8192x128 .f32 := broadcastInDim S8x8192x128 ![] bcast_S_S8x8192x128 main_cst_0
  let main_v10 : IVec S8x8192x128 1 := cmpf .olt main_v8 main_v9
  let main_c_1 : IVec S_ 1 := constantI S_ 1 1#1
  let main_v11 : IVec S_ 1 := (fun x v => Host.reduce IntOp.andi x v reducesTo_S8x8192x128_S_d0_1_2 h_S_) main_v10 main_c_1
  let main_v12 : IVec S_ 1 := andi main_v5 main_v11
  let main_v13 : FVec F S8192x512 .bf16 := (extractStridedSlice S8192x512 ![0, 0] · slices_S8704x512_S8192x512_0_0) main_arg2
  let main_v14 : FVec F S8192x512 .f32 := (extf .f32 · bitsLt_bf16_f32) main_v13
  let main_v15 : FVec F S8192x512 .f32 := Host.absf main_v14
  let main_cst_2 : FVec F S_ .f32 := constant S_ .f32 0x7F800000#32
  let main_v16 : FVec F S8192x512 .f32 := broadcastInDim S8192x512 ![] bcast_S_S8192x512 main_cst_2
  let main_v17 : IVec S8192x512 1 := cmpf .olt main_v15 main_v16
  let main_c_3 : IVec S_ 1 := constantI S_ 1 1#1
  fn_part1 (F := F) main_arg3 main_v12 main_v17 main_c_3
-- ==== Kernel.lean ====
abbrev S8x8704x512 : Shape := ⟨3, ![8, 8704, 512]⟩
abbrev S8x8704x128 : Shape := ⟨3, ![8, 8704, 128]⟩
abbrev S8704x512 : Shape := ⟨2, ![8704, 512]⟩
abbrev S8704x128 : Shape := ⟨2, ![8704, 128]⟩
abbrev S8x512x128 : Shape := ⟨3, ![8, 512, 128]⟩
abbrev S1x1024 : Shape := ⟨2, ![1, 1024]⟩
abbrev S8192x1024 : Shape := ⟨2, ![8192, 1024]⟩
abbrev S8x128x512 : Shape := ⟨3, ![8, 128, 512]⟩
abbrev S8x128x128 : Shape := ⟨3, ![8, 128, 128]⟩
abbrev S4096x512 : Shape := ⟨2, ![4096, 512]⟩
abbrev S4096x128 : Shape := ⟨2, ![4096, 128]⟩
abbrev S128x1024 : Shape := ⟨2, ![128, 1024]⟩
abbrev S1024x512 : Shape := ⟨2, ![1024, 512]⟩
abbrev S1024x128 : Shape := ⟨2, ![1024, 128]⟩
abbrev S512x512 : Shape := ⟨2, ![512, 512]⟩
abbrev S512x128 : Shape := ⟨2, ![512, 128]⟩
abbrev S1024 : Shape := ⟨1, ![1024]⟩
abbrev S1024x1 : Shape := ⟨2, ![1024, 1]⟩
abbrev S128x512 : Shape := ⟨2, ![128, 512]⟩
abbrev S1x512x128 : Shape := ⟨3, ![1, 512, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩

abbrev nBuf : Space → Nat
  | .hbm => 7
  | .vmem => 13
  | .smem => 0
  | _ => 0

abbrev bufTy : (tb : Table) → Fin (tcTables nBuf tb) → BufTy
  | .hbm, ⟨0, _⟩ => ⟨S8x8704x512, .bf16⟩
  | .hbm, ⟨1, _⟩ => ⟨S8x8704x128, .bf16⟩
  | .hbm, ⟨2, _⟩ => ⟨S8704x512, .bf16⟩
  | .hbm, ⟨3, _⟩ => ⟨S8704x128, .bf16⟩
  | .hbm, ⟨4, _⟩ => ⟨S8x512x128, .bf16⟩
  | .hbm, ⟨5, _⟩ => ⟨S1x1024, .f32⟩
  | .hbm, ⟨6, _⟩ => ⟨S8192x1024, .bf16⟩
  | .local _ .vmem, ⟨0, _⟩ => ⟨S8x128x512, .bf16⟩
  | .local _ .vmem, ⟨1, _⟩ => ⟨S8x128x512, .bf16⟩
  | .local _ .vmem, ⟨2, _⟩ => ⟨S8x128x128, .bf16⟩
  | .local _ .vmem, ⟨3, _⟩ => ⟨S8x128x128, .bf16⟩
  | .local _ .vmem, ⟨4, _⟩ => ⟨S4096x512, .bf16⟩
  | .local _ .vmem, ⟨5, _⟩ => ⟨S4096x512, .bf16⟩
  | .local _ .vmem, ⟨6, _⟩ => ⟨S4096x128, .bf16⟩
  | .local _ .vmem, ⟨7, _⟩ => ⟨S4096x128, .bf16⟩
  | .local _ .vmem, ⟨8, _⟩ => ⟨S8x512x128, .bf16⟩
  | .local _ .vmem, ⟨9, _⟩ => ⟨S1x1024, .f32⟩
  | .local _ .vmem, ⟨10, _⟩ => ⟨S128x1024, .bf16⟩
  | .local _ .vmem, ⟨11, _⟩ => ⟨S128x1024, .bf16⟩
  | .local _ .vmem, ⟨12, _⟩ => ⟨S1024x512, .f32⟩
  | _, _ => ⟨S8x8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_5 : BitVec 32 := 0#32
  let v7 : BitVec 1 := Scalar.cmpi .slt arg1 c0_i32_5
  let v8 : BitVec 32 := Scalar.extui v7
  let v9 : BitVec 32 := Scalar.subi v6 v8
  let c4_i32 : BitVec 32 := 4#32
  let c0_i32_6 : BitVec 32 := 0#32
  let v10 : BitVec 1 := Scalar.cmpi .sgt c4_i32 c0_i32_6
  let v11 : BitVec 32 := Scalar.extui v10
  let c0_i32_7 : BitVec 32 := 0#32
  let v12 : BitVec 1 := Scalar.cmpi .slt c4_i32 c0_i32_7
  let v13 : BitVec 32 := Scalar.extui v12
  let v14 : BitVec 32 := Scalar.subi v11 v13
  let v15 : BitVec 1 := Scalar.cmpi .ne v9 v14
  let v16 : BitVec 32 := Scalar.remsi arg1 c4_i32
  let c0_i32_8 : BitVec 32 := 0#32
  let v17 : BitVec 1 := Scalar.cmpi .ne v16 c0_i32_8
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let c512_i32 : BitVec 32 := 512#32
  let v21 : BitVec 32 := Scalar.muli v20 c512_i32
  v21
def k0_off1 (i : grid0.Coords) : Fin 2 → Nat :=
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_5 : BitVec 32 := 0#32
  let v7 : BitVec 1 := Scalar.cmpi .slt arg1 c0_i32_5
  let v8 : BitVec 32 := Scalar.extui v7
  let v9 : BitVec 32 := Scalar.subi v6 v8
  let c4_i32 : BitVec 32 := 4#32
  let c0_i32_6 : BitVec 32 := 0#32
  let v10 : BitVec 1 := Scalar.cmpi .sgt c4_i32 c0_i32_6
  let v11 : BitVec 32 := Scalar.extui v10
  let c0_i32_7 : BitVec 32 := 0#32
  let v12 : BitVec 1 := Scalar.cmpi .slt c4_i32 c0_i32_7
  let v13 : BitVec 32 := Scalar.extui v12
  let v14 : BitVec 32 := Scalar.subi v11 v13
  let v15 : BitVec 1 := Scalar.cmpi .ne v9 v14
  let v16 : BitVec 32 := Scalar.remsi arg1 c4_i32
  let c0_i32_8 : BitVec 32 := 0#32
  let v17 : BitVec 1 := Scalar.cmpi .ne v16 c0_i32_8
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let c512_i32 : BitVec 32 := 512#32
  let v21 : BitVec 32 := Scalar.muli v20 c512_i32
  let v22 : BitVec 32 := v21
  let v23 : Index := Scalar.indexCast v22
  let c0_9 : Index := 0#32
  ![v23.toNat, 0]
def k0_off2 (i : grid0.Coords) : Fin 2 → Nat :=
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_5 : BitVec 32 := 0#32
  let v7 : BitVec 1 := Scalar.cmpi .slt arg1 c0_i32_5
  let v8 : BitVec 32 := Scalar.extui v7
  let v9 : BitVec 32 := Scalar.subi v6 v8
  let c4_i32 : BitVec 32 := 4#32
  let c0_i32_6 : BitVec 32 := 0#32
  let v10 : BitVec 1 := Scalar.cmpi .sgt c4_i32 c0_i32_6
  let v11 : BitVec 32 := Scalar.extui v10
  let c0_i32_7 : BitVec 32 := 0#32
  let v12 : BitVec 1 := Scalar.cmpi .slt c4_i32 c0_i32_7
  let v13 : BitVec 32 := Scalar.extui v12
  let v14 : BitVec 32 := Scalar.subi v11 v13
  let v15 : BitVec 1 := Scalar.cmpi .ne v9 v14
  let v16 : BitVec 32 := Scalar.remsi arg1 c4_i32
  let c0_i32_8 : BitVec 32 := 0#32
  let v17 : BitVec 1 := Scalar.cmpi .ne v16 c0_i32_8
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let c512_i32 : BitVec 32 := 512#32
  let v21 : BitVec 32 := Scalar.muli v20 c512_i32
  let v22 : BitVec 32 := v21
  let v26 : Index := Scalar.indexCast v22
  let c0_10 : Index := 0#32
  ![v26.toNat, 0]
@[reducible] def k0_t1_loop (i : grid0.Coords) : Scf.Loop 32 :=
  let c0_i32_19 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_5 : BitVec 32 := 0#32
  let v7 : BitVec 1 := Scalar.cmpi .slt arg1 c0_i32_5
  let v8 : BitVec 32 := Scalar.extui v7
  let v9 : BitVec 32 := Scalar.subi v6 v8
  let c4_i32 : BitVec 32 := 4#32
  let c0_i32_6 : BitVec 32 := 0#32
  let v10 : BitVec 1 := Scalar.cmpi .sgt c4_i32 c0_i32_6
  let v11 : BitVec 32 := Scalar.extui v10
  let c0_i32_7 : BitVec 32 := 0#32
  let v12 : BitVec 1 := Scalar.cmpi .slt c4_i32 c0_i32_7
  let v13 : BitVec 32 := Scalar.extui v12
  let v14 : BitVec 32 := Scalar.subi v11 v13
  let v15 : BitVec 1 := Scalar.cmpi .ne v9 v14
  let v16 : BitVec 32 := Scalar.remsi arg1 c4_i32
  let c0_i32_8 : BitVec 32 := 0#32
  let v17 : BitVec 1 := Scalar.cmpi .ne v16 c0_i32_8
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v55 : BitVec 32 := Scalar.subi v20 c0_i32_19
  let c1_i32_20 : BitVec 32 := 1#32
  let v57 : BitVec 32 := Scalar.divsi v55 c1_i32_20
  let v58 : BitVec 32 := Scalar.muli v57 c1_i32_20
  let v59 : BitVec 32 := Scalar.addi c0_i32_19 v58
  let c1_i32_21 : BitVec 32 := 1#32
  ⟨c0_i32_19, v59, c1_i32_21⟩
def k0_mult2 (i : grid0.Coords) (k0_t1 : Fin (k0_t1_loop i).trips) : BitVec 32 :=
  let c0_i32_19 : BitVec 32 := 0#32
  let c1_i32_21 : BitVec 32 := 1#32
  let arg10 : BitVec 32 := Scf.iv c0_i32_19 c1_i32_21 k0_t1
  let c512_i32_85 : BitVec 32 := 512#32
  let v190 : BitVec 32 := Scalar.muli arg10 c512_i32_85
  v190
def k0_off3 (i : grid0.Coords) (k0_t1 : Fin (k0_t1_loop i).trips) : Fin 2 → Nat :=
  let c0_i32_19 : BitVec 32 := 0#32
  let c1_i32_21 : BitVec 32 := 1#32
  let arg10 : BitVec 32 := Scf.iv c0_i32_19 c1_i32_21 k0_t1
  let c512_i32_85 : BitVec 32 := 512#32
  let v190 : BitVec 32 := Scalar.muli arg10 c512_i32_85
  let v191 : BitVec 32 := v190
  let v192 : Index := Scalar.indexCast v191
  let c0_86 : Index := 0#32
  ![v192.toNat, 0]
def k0_off4 (i : grid0.Coords) (k0_t1 : Fin (k0_t1_loop i).trips) : Fin 2 → Nat :=
  let c0_i32_19 : BitVec 32 := 0#32
  let c1_i32_21 : BitVec 32 := 1#32
  let arg10 : BitVec 32 := Scf.iv c0_i32_19 c1_i32_21 k0_t1
  let c512_i32_85 : BitVec 32 := 512#32
  let v190 : BitVec 32 := Scalar.muli arg10 c512_i32_85
  let v191 : BitVec 32 := v190
  let v195 : Index := Scalar.indexCast v191
  let c0_88 : Index := 0#32
  ![v195.toNat, 0]
@[reducible] def k0_t2_loop (i : grid0.Coords) : Scf.Loop 32 :=
  let c0_i32_19 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_5 : BitVec 32 := 0#32
  let v7 : BitVec 1 := Scalar.cmpi .slt arg1 c0_i32_5
  let v8 : BitVec 32 := Scalar.extui v7
  let v9 : BitVec 32 := Scalar.subi v6 v8
  let c4_i32 : BitVec 32 := 4#32
  let c0_i32_6 : BitVec 32 := 0#32
  let v10 : BitVec 1 := Scalar.cmpi .sgt c4_i32 c0_i32_6
  let v11 : BitVec 32 := Scalar.extui v10
  let c0_i32_7 : BitVec 32 := 0#32
  let v12 : BitVec 1 := Scalar.cmpi .slt c4_i32 c0_i32_7
  let v13 : BitVec 32 := Scalar.extui v12
  let v14 : BitVec 32 := Scalar.subi v11 v13
  let v15 : BitVec 1 := Scalar.cmpi .ne v9 v14
  let v16 : BitVec 32 := Scalar.remsi arg1 c4_i32
  let c0_i32_8 : BitVec 32 := 0#32
  let v17 : BitVec 1 := Scalar.cmpi .ne v16 c0_i32_8
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v55 : BitVec 32 := Scalar.subi v20 c0_i32_19
  let c1_i32_20 : BitVec 32 := 1#32
  let v57 : BitVec 32 := Scalar.divsi v55 c1_i32_20
  let v58 : BitVec 32 := Scalar.muli v57 c1_i32_20
  let v59 : BitVec 32 := Scalar.addi c0_i32_19 v58
  let v56 : BitVec 32 := Scalar.addi c0_i32_19 v55
  let c1_i32_22 : BitVec 32 := 1#32
  ⟨v59, v56, c1_i32_22⟩
def k0_mult3 (i : grid0.Coords) (k0_t2 : Fin (k0_t2_loop i).trips) : BitVec 32 :=
  let c0_i32_19 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_5 : BitVec 32 := 0#32
  let v7 : BitVec 1 := Scalar.cmpi .slt arg1 c0_i32_5
  let v8 : BitVec 32 := Scalar.extui v7
  let v9 : BitVec 32 := Scalar.subi v6 v8
  let c4_i32 : BitVec 32 := 4#32
  let c0_i32_6 : BitVec 32 := 0#32
  let v10 : BitVec 1 := Scalar.cmpi .sgt c4_i32 c0_i32_6
  let v11 : BitVec 32 := Scalar.extui v10
  let c0_i32_7 : BitVec 32 := 0#32
  let v12 : BitVec 1 := Scalar.cmpi .slt c4_i32 c0_i32_7
  let v13 : BitVec 32 := Scalar.extui v12
  let v14 : BitVec 32 := Scalar.subi v11 v13
  let v15 : BitVec 1 := Scalar.cmpi .ne v9 v14
  let v16 : BitVec 32 := Scalar.remsi arg1 c4_i32
  let c0_i32_8 : BitVec 32 := 0#32
  let v17 : BitVec 1 := Scalar.cmpi .ne v16 c0_i32_8
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v55 : BitVec 32 := Scalar.subi v20 c0_i32_19
  let c1_i32_20 : BitVec 32 := 1#32
  let v57 : BitVec 32 := Scalar.divsi v55 c1_i32_20
  let v58 : BitVec 32 := Scalar.muli v57 c1_i32_20
  let v59 : BitVec 32 := Scalar.addi c0_i32_19 v58
  let c1_i32_22 : BitVec 32 := 1#32
  let arg10 : BitVec 32 := Scf.iv v59 c1_i32_22 k0_t2
  let c512_i32_85 : BitVec 32 := 512#32
  let v190 : BitVec 32 := Scalar.muli arg10 c512_i32_85
  v190
def k0_off5 (i : grid0.Coords) (k0_t2 : Fin (k0_t2_loop i).trips) : Fin 2 → Nat :=
  let c0_i32_19 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_5 : BitVec 32 := 0#32
  let v7 : BitVec 1 := Scalar.cmpi .slt arg1 c0_i32_5
  let v8 : BitVec 32 := Scalar.extui v7
  let v9 : BitVec 32 := Scalar.subi v6 v8
  let c4_i32 : BitVec 32 := 4#32
  let c0_i32_6 : BitVec 32 := 0#32
  let v10 : BitVec 1 := Scalar.cmpi .sgt c4_i32 c0_i32_6
  let v11 : BitVec 32 := Scalar.extui v10
  let c0_i32_7 : BitVec 32 := 0#32
  let v12 : BitVec 1 := Scalar.cmpi .slt c4_i32 c0_i32_7
  let v13 : BitVec 32 := Scalar.extui v12
  let v14 : BitVec 32 := Scalar.subi v11 v13
  let v15 : BitVec 1 := Scalar.cmpi .ne v9 v14
  let v16 : BitVec 32 := Scalar.remsi arg1 c4_i32
  let c0_i32_8 : BitVec 32 := 0#32
  let v17 : BitVec 1 := Scalar.cmpi .ne v16 c0_i32_8
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v55 : BitVec 32 := Scalar.subi v20 c0_i32_19
  let c1_i32_20 : BitVec 32 := 1#32
  let v57 : BitVec 32 := Scalar.divsi v55 c1_i32_20
  let v58 : BitVec 32 := Scalar.muli v57 c1_i32_20
  let v59 : BitVec 32 := Scalar.addi c0_i32_19 v58
  let c1_i32_22 : BitVec 32 := 1#32
  let arg10 : BitVec 32 := Scf.iv v59 c1_i32_22 k0_t2
  let c512_i32_85 : BitVec 32 := 512#32
  let v190 : BitVec 32 := Scalar.muli arg10 c512_i32_85
  let v191 : BitVec 32 := v190
  let v192 : Index := Scalar.indexCast v191
  let c0_86 : Index := 0#32
  ![v192.toNat, 0]
def k0_off6 (i : grid0.Coords) (k0_t2 : Fin (k0_t2_loop i).trips) : Fin 2 → Nat :=
  let c0_i32_19 : BitVec 32 := 0#32
  let arg1 : BitVec 32 := BitVec.ofNat 32 (i 1).val
  let c0_i32 : BitVec 32 := 0#32
  let v5 : BitVec 1 := Scalar.cmpi .sgt arg1 c0_i32
  let v6 : BitVec 32 := Scalar.extui v5
  let c0_i32_5 : BitVec 32 := 0#32
  let v7 : BitVec 1 := Scalar.cmpi .slt arg1 c0_i32_5
  let v8 : BitVec 32 := Scalar.extui v7
  let v9 : BitVec 32 := Scalar.subi v6 v8
  let c4_i32 : BitVec 32 := 4#32
  let c0_i32_6 : BitVec 32 := 0#32
  let v10 : BitVec 1 := Scalar.cmpi .sgt c4_i32 c0_i32_6
  let v11 : BitVec 32 := Scalar.extui v10
  let c0_i32_7 : BitVec 32 := 0#32
  let v12 : BitVec 1 := Scalar.cmpi .slt c4_i32 c0_i32_7
  let v13 : BitVec 32 := Scalar.extui v12
  let v14 : BitVec 32 := Scalar.subi v11 v13
  let v15 : BitVec 1 := Scalar.cmpi .ne v9 v14
  let v16 : BitVec 32 := Scalar.remsi arg1 c4_i32
  let c0_i32_8 : BitVec 32 := 0#32
  let v17 : BitVec 1 := Scalar.cmpi .ne v16 c0_i32_8
  let v18 : BitVec 1 := Scalar.andi v15 v17
  let v4 : BitVec 32 := Scalar.divsi arg1 c4_i32
  let c1_i32 : BitVec 32 := 1#32
  let v19 : BitVec 32 := Scalar.subi v4 c1_i32
  let v20 : BitVec 32 := Scalar.select v18 v19 v4
  let v55 : BitVec 32 := Scalar.subi v20 c0_i32_19
  let c1_i32_20 : BitVec 32 := 1#32
  let v57 : BitVec 32 := Scalar.divsi v55 c1_i32_20
  let v58 : BitVec 32 := Scalar.muli v57 c1_i32_20
  let v59 : BitVec 32 := Scalar.addi c0_i32_19 v58
  let c1_i32_22 : BitVec 32 := 1#32
  let arg10 : BitVec 32 := Scf.iv v59 c1_i32_22 k0_t2
  let c512_i32_85 : BitVec 32 := 512#32
  let v190 : BitVec 32 := Scalar.muli arg10 c512_i32_85
  let v191 : BitVec 32 := v190
  let v195 : Index := Scalar.indexCast v191
  let c0_88 : Index := 0#32
  ![v195.toNat, 0]
def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8704x512 : Shape := ⟨3, ![8, 8704, 512]⟩
abbrev S8x8704x128 : Shape := ⟨3, ![8, 8704, 128]⟩
abbrev S8704x512 : Shape := ⟨2, ![8704, 512]⟩
abbrev S8704x128 : Shape := ⟨2, ![8704, 128]⟩
abbrev S8x512x128 : Shape := ⟨3, ![8, 512, 128]⟩
abbrev S1x1024 : Shape := ⟨2, ![1, 1024]⟩
abbrev S8x8192x512 : Shape := ⟨3, ![8, 8192, 512]⟩
abbrev S8x2x4096x512 : Shape := ⟨4, ![8, 2, 4096, 512]⟩
abbrev S8x8192x128 : Shape := ⟨3, ![8, 8192, 128]⟩
abbrev S8x2x4096x128 : Shape := ⟨4, ![8, 2, 4096, 128]⟩
abbrev S8192x512 : Shape := ⟨2, ![8192, 512]⟩
abbrev S2x4096x512 : Shape := ⟨3, ![2, 4096, 512]⟩
abbrev S8192x128 : Shape := ⟨2, ![8192, 128]⟩
abbrev S2x4096x128 : Shape := ⟨3, ![2, 4096, 128]⟩
abbrev S2x8x4096x4096 : Shape := ⟨4, ![2, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x8x4096 : Shape := ⟨3, ![2, 8, 4096]⟩
abbrev S2x8x4096x1 : Shape := ⟨4, ![2, 8, 4096, 1]⟩
abbrev S2x512x8x4096 : Shape := ⟨4, ![2, 512, 8, 4096]⟩
abbrev S2x4096x8x512 : Shape := ⟨4, ![2, 4096, 8, 512]⟩
abbrev S8x128x2x4096 : Shape := ⟨4, ![8, 128, 2, 4096]⟩
abbrev S2x4096x8x128 : Shape := ⟨4, ![2, 4096, 8, 128]⟩
abbrev S8192x1024 : Shape := ⟨2, ![8192, 1024]⟩
abbrev S8192 : Shape := ⟨1, ![8192]⟩
abbrev S8192x1 : Shape := ⟨2, ![8192, 1]⟩

abbrev nBuf : Space → Nat
  | .hbm => 68
  | .vmem => 0
  | .smem => 0
  | _ => 0

abbrev bufTy : (tb : Table) → Fin (tcTables nBuf tb) → BufTy
  | .hbm, ⟨0, _⟩ => ⟨S8x8704x512, .bf16⟩
  | .hbm, ⟨1, _⟩ => ⟨S8x8704x128, .bf16⟩
  | .hbm, ⟨2, _⟩ => ⟨S8704x512, .bf16⟩
  | .hbm, ⟨3, _⟩ => ⟨S8704x128, .bf16⟩
  | .hbm, ⟨4, _⟩ => ⟨S8x512x128, .bf16⟩
  | .hbm, ⟨5, _⟩ => ⟨S1x1024, .f32⟩
  | .hbm, ⟨6, _⟩ => ⟨S8x8192x512, .bf16⟩
  | .hbm, ⟨7, _⟩ => ⟨S8x8192x512, .f32⟩
  | .hbm, ⟨8, _⟩ => ⟨S8x2x4096x512, .f32⟩
  | .hbm, ⟨9, _⟩ => ⟨S8x8192x128, .bf16⟩
  | .hbm, ⟨10, _⟩ => ⟨S8x8192x128, .f32⟩
  | .hbm, ⟨11, _⟩ => ⟨S8x2x4096x128, .f32⟩
  | .hbm, ⟨12, _⟩ => ⟨S8192x512, .bf16⟩
  | .hbm, ⟨13, _⟩ => ⟨S8192x512, .f32⟩
  | .hbm, ⟨14, _⟩ => ⟨S2x4096x512, .f32⟩
  | .hbm, ⟨15, _⟩ => ⟨S8192x128, .bf16⟩
  | .hbm, ⟨16, _⟩ => ⟨S8192x128, .f32⟩
  | .hbm, ⟨17, _⟩ => ⟨S2x4096x128, .f32⟩
  | .hbm, ⟨18, _⟩ => ⟨S2x8x4096x4096, .f32⟩
  | .hbm, ⟨19, _⟩ => ⟨S2x8x4096x4096, .f32⟩
  | .hbm, ⟨20, _⟩ => ⟨S2x8x4096x4096, .f32⟩
  | .hbm, ⟨21, _⟩ => ⟨S4096, .i32⟩
  | .hbm, ⟨22, _⟩ => ⟨S1x4096, .i32⟩
  | .hbm, ⟨23, _⟩ => ⟨S4096x1, .i32⟩
  | .hbm, ⟨24, _⟩ => ⟨S4096x4096, .i32⟩
  | .hbm, ⟨25, _⟩ => ⟨S4096x4096, .i32⟩
  | .hbm, ⟨26, _⟩ => ⟨S4096x4096, .i1⟩
  | .hbm, ⟨27, _⟩ => ⟨S_, .f32⟩
  | .hbm, ⟨28, _⟩ => ⟨S_, .f32⟩
  | .hbm, ⟨29, _⟩ => ⟨S2x8x4096x4096, .i1⟩
  | .hbm, ⟨30, _⟩ => ⟨S2x8x4096x4096, .f32⟩
  | .hbm, ⟨31, _⟩ => ⟨S2x8x4096x4096, .f32⟩
  | .hbm, ⟨32, _⟩ => ⟨S_, .f32⟩
  | .hbm, ⟨33, _⟩ => ⟨S2x8x4096, .f32⟩
  | .hbm, ⟨34, _⟩ => ⟨S_, .f32⟩
  | .hbm, ⟨35, _⟩ => ⟨S2x8x4096, .f32⟩
  | .hbm, ⟨36, _⟩ => ⟨S2x8x4096, .f32⟩
  | .hbm, ⟨37, _⟩ => ⟨S2x8x4096x1, .f32⟩
  | .hbm, ⟨38, _⟩ => ⟨S2x8x4096x4096, .f32⟩
  | .hbm, ⟨39, _⟩ => ⟨S2x8x4096x4096, .f32⟩
  | .hbm, ⟨40, _⟩ => ⟨S2x8x4096x4096, .f32⟩
  | .hbm, ⟨41, _⟩ => ⟨S_, .f32⟩
  | .hbm, ⟨42, _⟩ => ⟨S2x8x4096, .f32⟩
  | .hbm, ⟨43, _⟩ => ⟨S2x8x4096x1, .f32⟩
  | .hbm, ⟨44, _⟩ => ⟨S2x8x4096x4096, .f32⟩
  | .hbm, ⟨45, _⟩ => ⟨S2x8x4096x4096, .f32⟩
  | .hbm, ⟨46, _⟩ => ⟨S2x512x8x4096, .f32⟩
  | .hbm, ⟨47, _⟩ => ⟨S2x4096x8x512, .f32⟩
  | .hbm, ⟨48, _⟩ => ⟨S8x512x128, .f32⟩
  | .hbm, ⟨49, _⟩ => ⟨S8x128x2x4096, .f32⟩
  | .hbm, ⟨50, _⟩ => ⟨S2x4096x8x128, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .bf16⟩
  | _, _ => ⟨S8x8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Up.lean ====
abbrev S8704x2048 : Shape := ⟨2, ![8704, 2048]⟩
abbrev S2048x8192 : Shape := ⟨2, ![2048, 8192]⟩
abbrev S8704x8192 : Shape := ⟨2, ![8704, 8192]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2048x8192, .bf16⟩
  | .hbm, ⟨2, _⟩ => ⟨S8704x8192, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpReferenceIdeal.lean ====
abbrev S8704x2048 : Shape := ⟨2, ![8704, 2048]⟩
abbrev S2048x8192 : Shape := ⟨2, ![2048, 8192]⟩
abbrev S8704x8192 : Shape := ⟨2, ![8704, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x8192, .bf16⟩
  | .hbm, ⟨2, _⟩ => ⟨S8704x2048, .f32⟩
  | .hbm, ⟨3, _⟩ => ⟨S2048x8192, .f32⟩
  | .hbm, ⟨4, _⟩ => ⟨S8704x8192, .f32⟩
  | .hbm, ⟨5, _⟩ => ⟨S_, .f32⟩
  | .hbm, ⟨6, _⟩ => ⟨S8704x8192, .f32⟩
  | .hbm, ⟨7, _⟩ => ⟨S8704x8192, .f32⟩
  | .hbm, ⟨8, _⟩ => ⟨S8704x8192, .f32⟩
  | .hbm, ⟨9, _⟩ => ⟨S8704x8192, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Down.lean ====
abbrev S8704x8192 : Shape := ⟨2, ![8704, 8192]⟩
abbrev S8192x2048 : Shape := ⟨2, ![8192, 2048]⟩
abbrev S8704x2048 : Shape := ⟨2, ![8704, 2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S8704x8192, .bf16⟩
  | .hbm, ⟨1, _⟩ => ⟨S8192x2048, .bf16⟩
  | .hbm, ⟨2, _⟩ => ⟨S8704x2048, .f32⟩
  | .hbm, ⟨3, _⟩ => ⟨S1x2048, .f32⟩
  | .hbm, ⟨4, _⟩ => ⟨S1x2048, .f32⟩
  | .hbm, ⟨5, _⟩ => ⟨S8704x2048, .f32⟩
  | .hbm, ⟨6, _⟩ => ⟨S8704x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S8704x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== DownReferenceIdeal.lean ====
abbrev S8704x8192 : Shape := ⟨2, ![8704, 8192]⟩
abbrev S8192x2048 : Shape := ⟨2, ![8192, 2048]⟩
abbrev S8704x2048 : Shape := ⟨2, ![8704, 2048]⟩
abbrev S1x2048 : Shape := ⟨2, ![1, 2048]⟩
abbrev S_ : Shape := ⟨0, ![]⟩
abbrev S8704 : Shape := ⟨1, ![8704]⟩
abbrev S8704x1 : Shape := ⟨2, ![8704, 1]⟩

abbrev nBuf : Space → Nat
  | .hbm => 40
  | .vmem => 0
  | .smem => 0
  | _ => 0

abbrev bufTy : (tb : Table) → Fin (tcTables nBuf tb) → BufTy
  | .hbm, ⟨0, _⟩ => ⟨S8704x8192, .bf16⟩
  | .hbm, ⟨1, _⟩ => ⟨S8192x2048, .bf16⟩
  | .hbm, ⟨2, _⟩ => ⟨S8704x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S8704x8192, .f32⟩
  | .hbm, ⟨9, _⟩ => ⟨S8192x2048, .f32⟩
  | .hbm, ⟨10, _⟩ => ⟨S8704x2048, .f32⟩
  | .hbm, ⟨11, _⟩ => ⟨S8704x2048, .f32⟩
  | .hbm, ⟨12, _⟩ => ⟨S_, .f32⟩
  | .hbm, ⟨13, _⟩ => ⟨S8704, .f32⟩
  | .hbm, ⟨14, _⟩ => ⟨S8704x1, .f32⟩
  | .hbm, ⟨15, _⟩ => ⟨S_, .f32⟩
  | .hbm, ⟨16, _⟩ => ⟨S8704x1, .f32⟩
  | .hbm, ⟨17, _⟩ => ⟨S8704x1, .f32⟩
  | .hbm, ⟨18, _⟩ => ⟨S8704x2048, .f32⟩
  | .hbm, ⟨19, _⟩ => ⟨S8704x2048, .f32⟩
  | .hbm, ⟨20, _⟩ => ⟨S8704x2048, .f32⟩
  | .hbm, ⟨21, _⟩ => ⟨S_, .f32⟩
  | .hbm, ⟨22, _⟩ => ⟨S8704, .f32⟩
  | .hbm, ⟨23, _⟩ => ⟨S8704x1, .f32⟩
  | .hbm, ⟨24, _⟩ => ⟨S_, .f32⟩
  | .hbm, ⟨25, _⟩ => ⟨S8704x1, .f32⟩
  | .hbm, ⟨26, _⟩ => ⟨S8704x1, .f32⟩
  | .hbm, ⟨27, _⟩ => ⟨S8704x2048, .f32⟩
  | .hbm, ⟨28, _⟩ => ⟨S8704x2048, .f32⟩
  | .hbm, ⟨29, _⟩ => ⟨S_, .f32⟩
  | .hbm, ⟨30, _⟩ => ⟨S8704x1, .f32⟩
  | .hbm, ⟨31, _⟩ => ⟨S8704x1, .f32⟩
  | .hbm, ⟨32, _⟩ => ⟨S8704x1, .f32⟩
  | .hbm, ⟨33, _⟩ => ⟨S8704x2048, .f32⟩
  | .hbm, ⟨34, _⟩ => ⟨S8704x2048, .f32⟩
  | .hbm, ⟨35, _⟩ => ⟨S8704x2048, .f32⟩
  | .hbm, ⟨36, _⟩ => ⟨S8704x2048, .f32⟩
  | .hbm, ⟨37, _⟩ => ⟨S8704x2048, .f32⟩
  | .hbm, ⟨38, _⟩ => ⟨S8704x2048, .f32⟩
  | .hbm, ⟨39, _⟩ => ⟨S8704x2048, .bf16⟩
  | _, _ => ⟨S8704x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Out.lean ====
abbrev S8704x2048 : Shape := ⟨2, ![8704, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .bf16⟩
  | .hbm, ⟨2, _⟩ => ⟨S8704x2048, .f32⟩
  | .hbm, ⟨3, _⟩ => ⟨S1x2048, .f32⟩
  | .hbm, ⟨4, _⟩ => ⟨S1x2048, .f32⟩
  | .hbm, ⟨5, _⟩ => ⟨S8704x2048, .f32⟩
  | .hbm, ⟨6, _⟩ => ⟨S8704x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![34, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutReferenceIdeal.lean ====
abbrev S8704x2048 : Shape := ⟨2, ![8704, 2048]⟩
abbrev S2048x2048 : Shape := ⟨2, ![2048, 2048]⟩
abbrev S1x2048 : Shape := ⟨2, ![1, 2048]⟩
abbrev S_ : Shape := ⟨0, ![]⟩
abbrev S8704 : Shape := ⟨1, ![8704]⟩
abbrev S8704x1 : Shape := ⟨2, ![8704, 1]⟩

abbrev nBuf : Space → Nat
  | .hbm => 40
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2048, .bf16⟩
  | .hbm, ⟨2, _⟩ => ⟨S8704x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S8704x2048, .f32⟩
  | .hbm, ⟨9, _⟩ => ⟨S2048x2048, .f32⟩
  | .hbm, ⟨10, _⟩ => ⟨S8704x2048, .f32⟩
  | .hbm, ⟨11, _⟩ => ⟨S8704x2048, .f32⟩
  | .hbm, ⟨12, _⟩ => ⟨S_, .f32⟩
  | .hbm, ⟨13, _⟩ => ⟨S8704, .f32⟩
  | .hbm, ⟨14, _⟩ => ⟨S8704x1, .f32⟩
  | .hbm, ⟨15, _⟩ => ⟨S_, .f32⟩
  | .hbm, ⟨16, _⟩ => ⟨S8704x1, .f32⟩
  | .hbm, ⟨17, _⟩ => ⟨S8704x1, .f32⟩
  | .hbm, ⟨18, _⟩ => ⟨S8704x2048, .f32⟩
  | .hbm, ⟨19, _⟩ => ⟨S8704x2048, .f32⟩
  | .hbm, ⟨20, _⟩ => ⟨S8704x2048, .f32⟩
  | .hbm, ⟨21, _⟩ => ⟨S_, .f32⟩
  | .hbm, ⟨22, _⟩ => ⟨S8704, .f32⟩
  | .hbm, ⟨23, _⟩ => ⟨S8704x1, .f32⟩
  | .hbm, ⟨24, _⟩ => ⟨S_, .f32⟩
  | .hbm, ⟨25, _⟩ => ⟨S8704x1, .f32⟩
  | .hbm, ⟨26, _⟩ => ⟨S8704x1, .f32⟩
  | .hbm, ⟨27, _⟩ => ⟨S8704x2048, .f32⟩
  | .hbm, ⟨28, _⟩ => ⟨S8704x2048, .f32⟩
  | .hbm, ⟨29, _⟩ => ⟨S_, .f32⟩
  | .hbm, ⟨30, _⟩ => ⟨S8704x1, .f32⟩
  | .hbm, ⟨31, _⟩ => ⟨S8704x1, .f32⟩
  | .hbm, ⟨32, _⟩ => ⟨S8704x1, .f32⟩
  | .hbm, ⟨33, _⟩ => ⟨S8704x2048, .f32⟩
  | .hbm, ⟨34, _⟩ => ⟨S8704x2048, .f32⟩
  | .hbm, ⟨35, _⟩ => ⟨S8704x2048, .f32⟩
  | .hbm, ⟨36, _⟩ => ⟨S8704x2048, .f32⟩
  | .hbm, ⟨37, _⟩ => ⟨S8704x2048, .f32⟩
  | .hbm, ⟨38, _⟩ => ⟨S8704x2048, .f32⟩
  | .hbm, ⟨39, _⟩ => ⟨S8704x2048, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== In.lean ====
abbrev S8704x2048 : Shape := ⟨2, ![8704, 2048]⟩
abbrev S2048x2688 : Shape := ⟨2, ![2048, 2688]⟩
abbrev S8704x2688 : Shape := ⟨2, ![8704, 2688]⟩
abbrev S512x2048 : Shape := ⟨2, ![512, 2048]⟩
abbrev S2048x896 : Shape := ⟨2, ![2048, 896]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S8704x2048, .bf16⟩
  | .hbm, ⟨1, _⟩ => ⟨S2048x2688, .bf16⟩
  | .hbm, ⟨2, _⟩ => ⟨S8704x2688, .f32⟩
  | .local _ .vmem, ⟨0, _⟩ => ⟨S512x2048, .bf16⟩
  | .local _ .vmem, ⟨1, _⟩ => ⟨S512x2048, .bf16⟩
  | .local _ .vmem, ⟨2, _⟩ => ⟨S2048x896, .bf16⟩
  | .local _ .vmem, ⟨3, _⟩ => ⟨S2048x896, .bf16⟩
  | .local _ .vmem, ⟨4, _⟩ => ⟨S512x896, .f32⟩
  | .local _ .vmem, ⟨5, _⟩ => ⟨S512x896, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InReferenceIdeal.lean ====
abbrev S8704x2048 : Shape := ⟨2, ![8704, 2048]⟩
abbrev S2048x2688 : Shape := ⟨2, ![2048, 2688]⟩
abbrev S8704x2688 : Shape := ⟨2, ![8704, 2688]⟩

abbrev nBuf : Space → Nat
  | .hbm => 5
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S2048x2688, .bf16⟩
  | .hbm, ⟨2, _⟩ => ⟨S8704x2048, .f32⟩
  | .hbm, ⟨3, _⟩ => ⟨S2048x2688, .f32⟩
  | .hbm, ⟨4, _⟩ => ⟨S8704x2688, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Post.lean ====
abbrev S8704x2688 : Shape := ⟨2, ![8704, 2688]⟩
abbrev S8704x2048 : Shape := ⟨2, ![8704, 2048]⟩
abbrev S16x2048 : Shape := ⟨2, ![16, 2048]⟩
abbrev S16x1 : Shape := ⟨2, ![16, 1]⟩
abbrev S1x128 : Shape := ⟨2, ![1, 128]⟩
abbrev S1x512 : Shape := ⟨2, ![1, 512]⟩
abbrev S8704x128 : Shape := ⟨2, ![8704, 128]⟩
abbrev S8x8704x128 : Shape := ⟨3, ![8, 8704, 128]⟩
abbrev S8704x8 : Shape := ⟨2, ![8704, 8]⟩
abbrev S16x8704 : Shape := ⟨2, ![16, 8704]⟩
abbrev S8704x512 : Shape := ⟨2, ![8704, 512]⟩
abbrev S8704x64 : Shape := ⟨2, ![8704, 64]⟩
abbrev S256x2688 : Shape := ⟨2, ![256, 2688]⟩
abbrev S256x2048 : Shape := ⟨2, ![256, 2048]⟩
abbrev S256x128 : Shape := ⟨2, ![256, 128]⟩
abbrev S8x256x128 : Shape := ⟨3, ![8, 256, 128]⟩
abbrev S256x8 : Shape := ⟨2, ![256, 8]⟩
abbrev S16x256 : Shape := ⟨2, ![16, 256]⟩
abbrev S256x512 : Shape := ⟨2, ![256, 512]⟩
abbrev S256x64 : Shape := ⟨2, ![256, 64]⟩
abbrev S1x256x128 : Shape := ⟨3, ![1, 256, 128]⟩
abbrev S256 : Shape := ⟨1, ![256]⟩
abbrev S256x1 : Shape := ⟨2, ![256, 1]⟩
abbrev S256x256 : Shape := ⟨2, ![256, 256]⟩

abbrev nBuf : Space → Nat
  | .hbm => 27
  | .vmem => 50
  | .smem => 0
  | _ => 0

abbrev bufTy : (tb : Table) → Fin (tcTables nBuf tb) → BufTy
  | .hbm, ⟨0, _⟩ => ⟨S8704x2688, .f32⟩
  | .hbm, ⟨1, _⟩ => ⟨S8704x2048, .bf16⟩
  | .hbm, ⟨2, _⟩ => ⟨S16x2048, .bf16⟩
  | .hbm, ⟨3, _⟩ => ⟨S16x1, .f32⟩
  | .hbm, ⟨4, _⟩ => ⟨S1x128, .f32⟩
  | .hbm, ⟨5, _⟩ => ⟨S1x512, .f32⟩
  | .hbm, ⟨6, _⟩ => ⟨S1x512, .f32⟩
  | .hbm, ⟨7, _⟩ => ⟨S8704x128, .f32⟩
  | .hbm, ⟨8, _⟩ => ⟨S8704x128, .f32⟩
  | .hbm, ⟨9, _⟩ => ⟨S8x8704x128, .bf16⟩
  | .hbm, ⟨10, _⟩ => ⟨S8704x128, .f32⟩
  | .hbm, ⟨11, _⟩ => ⟨S8704x128, .f32⟩
  | .hbm, ⟨12, _⟩ => ⟨S8704x128, .bf16⟩
  | .hbm, ⟨13, _⟩ => ⟨S8704x128, .bf16⟩
  | .hbm, ⟨14, _⟩ => ⟨S8704x8, .f32⟩
  | .hbm, ⟨15, _⟩ => ⟨S16x8704, .f32⟩
  | .hbm, ⟨16, _⟩ => ⟨S16x8704, .f32⟩
  | .hbm, ⟨17, _⟩ => ⟨S8x8704x128, .bf16⟩
  | .hbm, ⟨18, _⟩ => ⟨S8704x128, .f32⟩
  | .hbm, ⟨19, _⟩ => ⟨S8704x128, .f32⟩
  | .hbm, ⟨20, _⟩ => ⟨S8704x128, .bf16⟩
  | .hbm, ⟨21, _⟩ => ⟨S8704x128, .bf16⟩
  | .hbm, ⟨22, _⟩ => ⟨S8704x512, .bf16⟩
  | .hbm, ⟨23, _⟩ => ⟨S8704x512, .f32⟩
  | .hbm, ⟨24, _⟩ => ⟨S8704x512, .bf16⟩
  | .hbm, ⟨25, _⟩ => ⟨S8704x64, .f32⟩
  | .hbm, ⟨26, _⟩ => ⟨S8704x128, .bf16⟩
  | .local _ .vmem, ⟨0, _⟩ => ⟨S256x2688, .f32⟩
  | .local _ .vmem, ⟨1, _⟩ => ⟨S256x2688, .f32⟩
  | .local _ .vmem, ⟨2, _⟩ => ⟨S256x2048, .bf16⟩
  | .local _ .vmem, ⟨3, _⟩ => ⟨S256x2048, .bf16⟩
  | .local _ .vmem, ⟨4, _⟩ => ⟨S16x2048, .bf16⟩
  | .local _ .vmem, ⟨5, _⟩ => ⟨S16x1, .f32⟩
  | .local _ .vmem, ⟨6, _⟩ => ⟨S1x128, .f32⟩
  | .local _ .vmem, ⟨7, _⟩ => ⟨S1x512, .f32⟩
  | .local _ .vmem, ⟨8, _⟩ => ⟨S1x512, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S8x256x128, .bf16⟩
  | .local _ .vmem, ⟨14, _⟩ => ⟨S8x256x128, .bf16⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S256x128, .bf16⟩
  | .local _ .vmem, ⟨23, _⟩ => ⟨S256x8, .f32⟩
  | .local _ .vmem, ⟨24, _⟩ => ⟨S256x8, .f32⟩
  | .local _ .vmem, ⟨25, _⟩ => ⟨S16x256, .f32⟩
  | .local _ .vmem, ⟨26, _⟩ => ⟨S16x256, .f32⟩
  | .local _ .vmem, ⟨27, _⟩ => ⟨S16x256, .f32⟩
  | .local _ .vmem, ⟨28, _⟩ => ⟨S16x256, .f32⟩
  | .local _ .vmem, ⟨29, _⟩ => ⟨S8x256x128, .bf16⟩
  | .local _ .vmem, ⟨30, _⟩ => ⟨S8x256x128, .bf16⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .bf16⟩
  | .local _ .vmem, ⟨36, _⟩ => ⟨S256x128, .bf16⟩
  | .local _ .vmem, ⟨37, _⟩ => ⟨S256x128, .bf16⟩
  | .local _ .vmem, ⟨38, _⟩ => ⟨S256x128, .bf16⟩
  | .local _ .vmem, ⟨39, _⟩ => ⟨S256x512, .bf16⟩
  | .local _ .vmem, ⟨40, _⟩ => ⟨S256x512, .bf16⟩
  | .local _ .vmem, ⟨41, _⟩ => ⟨S256x512, .f32⟩
  | .local _ .vmem, ⟨42, _⟩ => ⟨S256x512, .f32⟩
  | .local _ .vmem, ⟨43, _⟩ => ⟨S256x512, .bf16⟩
  | .local _ .vmem, ⟨44, _⟩ => ⟨S256x512, .bf16⟩
  | .local _ .vmem, ⟨45, _⟩ => ⟨S256x64, .f32⟩
  | .local _ .vmem, ⟨46, _⟩ => ⟨S256x64, .f32⟩
  | .local _ .vmem, ⟨47, _⟩ => ⟨S256x128, .bf16⟩
  | .local _ .vmem, ⟨48, _⟩ => ⟨S256x128, .bf16⟩
  | .local _ .vmem, ⟨49, _⟩ => ⟨S16x1, .f32⟩
  | _, _ => ⟨S8704x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev main_v0_9 : Ref sig .tc := ⟨.hbm, 18, rfl⟩
abbrev main_v0_10 : Ref sig .tc := ⟨.hbm, 19, rfl⟩
abbrev main_v0_11 : Ref sig .tc := ⟨.hbm, 20, rfl⟩
abbrev main_v0_12 : Ref sig .tc := ⟨.hbm, 21, rfl⟩
abbrev main_v0_13 : Ref sig .tc := ⟨.hbm, 22, rfl⟩
abbrev main_v0_14 : Ref sig .tc := ⟨.hbm, 23, rfl⟩
abbrev main_v0_15 : Ref sig .tc := ⟨.hbm, 24, rfl⟩
abbrev main_v0_16 : Ref sig .tc := ⟨.hbm, 25, rfl⟩
abbrev main_v0_17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg25_1 : Ref sig .tc := ⟨.vmem, 46, rfl⟩
abbrev cc0_stg26_0 : Ref sig .tc := ⟨.vmem, 47, rfl⟩
abbrev cc0_stg26_1 : Ref sig .tc := ⟨.vmem, 48, rfl⟩
abbrev cc0_scratch0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45
abbrev cc0_sem25_1 : DmaSem sig := 46
abbrev cc0_sem26_0 : DmaSem sig := 47
abbrev cc0_sem26_1 : DmaSem sig := 48

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x64 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== PostReferenceIdeal.lean ====
abbrev S8704x2688 : Shape := ⟨2, ![8704, 2688]⟩
abbrev S8704x2048 : Shape := ⟨2, ![8704, 2048]⟩
abbrev S16x2048 : Shape := ⟨2, ![16, 2048]⟩
abbrev S16x1 : Shape := ⟨2, ![16, 1]⟩
abbrev S1x128 : Shape := ⟨2, ![1, 128]⟩
abbrev S1x512 : Shape := ⟨2, ![1, 512]⟩
abbrev S8704x128 : Shape := ⟨2, ![8704, 128]⟩
abbrev S8704x8 : Shape := ⟨2, ![8704, 8]⟩
abbrev S1x8 : Shape := ⟨2, ![1, 8]⟩
abbrev S_ : Shape := ⟨0, ![]⟩
abbrev S8704x512 : Shape := ⟨2, ![8704, 512]⟩
abbrev S8704 : Shape := ⟨1, ![8704]⟩
abbrev S8704x1 : Shape := ⟨2, ![8704, 1]⟩
abbrev S8704x32 : Shape := ⟨2, ![8704, 32]⟩
abbrev S8704x64 : Shape := ⟨2, ![8704, 64]⟩
abbrev S2048x8704 : Shape := ⟨2, ![2048, 8704]⟩
abbrev S16x8704 : Shape := ⟨2, ![16, 8704]⟩

abbrev nBuf : Space → Nat
  | .hbm => 106
  | .vmem => 0
  | .smem => 0
  | _ => 0

abbrev bufTy : (tb : Table) → Fin (tcTables nBuf tb) → BufTy
  | .hbm, ⟨0, _⟩ => ⟨S8704x2688, .f32⟩
  | .hbm, ⟨1, _⟩ => ⟨S8704x2048, .bf16⟩
  | .hbm, ⟨2, _⟩ => ⟨S16x2048, .bf16⟩
  | .hbm, ⟨3, _⟩ => ⟨S16x1, .f32⟩
  | .hbm, ⟨4, _⟩ => ⟨S1x128, .f32⟩
  | .hbm, ⟨5, _⟩ => ⟨S1x512, .f32⟩
  | .hbm, ⟨6, _⟩ => ⟨S1x512, .f32⟩
  | .hbm, ⟨7, _⟩ => ⟨S8704x128, .f32⟩
  | .hbm, ⟨8, _⟩ => ⟨S8704x128, .f32⟩
  | .hbm, ⟨9, _⟩ => ⟨S8704x128, .f32⟩
  | .hbm, ⟨10, _⟩ => ⟨S8704x128, .f32⟩
  | .hbm, ⟨11, _⟩ => ⟨S8704x128, .f32⟩
  | .hbm, ⟨12, _⟩ => ⟨S8704x128, .f32⟩
  | .hbm, ⟨13, _⟩ => ⟨S8704x8, .f32⟩
  | .hbm, ⟨14, _⟩ => ⟨S1x8, .f32⟩
  | .hbm, ⟨15, _⟩ => ⟨S8704x8, .f32⟩
  | .hbm, ⟨16, _⟩ => ⟨S8704x8, .f32⟩
  | .hbm, ⟨17, _⟩ => ⟨S8704x8, .f32⟩
  | .hbm, ⟨18, _⟩ => ⟨S_, .f32⟩
  | .hbm, ⟨19, _⟩ => ⟨S8704x8, .f32⟩
  | .hbm, ⟨20, _⟩ => ⟨S8704x8, .f32⟩
  | .hbm, ⟨21, _⟩ => ⟨S8704x8, .f32⟩
  | .hbm, ⟨22, _⟩ => ⟨S8704x8, .f32⟩
  | .hbm, ⟨23, _⟩ => ⟨S8704x8, .i1⟩
  | .hbm, ⟨24, _⟩ => ⟨S8704x8, .f32⟩
  | .hbm, ⟨25, _⟩ => ⟨S8704x8, .f32⟩
  | .hbm, ⟨26, _⟩ => ⟨S8704x8, .f32⟩
  | .hbm, ⟨27, _⟩ => ⟨S8704x8, .f32⟩
  | .hbm, ⟨28, _⟩ => ⟨S8704x8, .f32⟩
  | .hbm, ⟨29, _⟩ => ⟨S8704x8, .f32⟩
  | .hbm, ⟨30, _⟩ => ⟨S8704x8, .f32⟩
  | .hbm, ⟨31, _⟩ => ⟨S8704x8, .f32⟩
  | .hbm, ⟨32, _⟩ => ⟨S8704x8, .f32⟩
  | .hbm, ⟨33, _⟩ => ⟨S8704x512, .f32⟩
  | .hbm, ⟨34, _⟩ => ⟨S8704x512, .f32⟩
  | .hbm, ⟨35, _⟩ => ⟨S_, .f32⟩
  | .hbm, ⟨36, _⟩ => ⟨S8704, .f32⟩
  | .hbm, ⟨37, _⟩ => ⟨S8704x1, .f32⟩
  | .hbm, ⟨38, _⟩ => ⟨S_, .f32⟩
  | .hbm, ⟨39, _⟩ => ⟨S8704x1, .f32⟩
  | .hbm, ⟨40, _⟩ => ⟨S8704x1, .f32⟩
  | .hbm, ⟨41, _⟩ => ⟨S_, .f32⟩
  | .hbm, ⟨42, _⟩ => ⟨S8704x1, .f32⟩
  | .hbm, ⟨43, _⟩ => ⟨S8704x1, .f32⟩
  | .hbm, ⟨44, _⟩ => ⟨S8704x1, .f32⟩
  | .hbm, ⟨45, _⟩ => ⟨S8704x512, .f32⟩
  | .hbm, ⟨46, _⟩ => ⟨S8704x512, .f32⟩
  | .hbm, ⟨47, _⟩ => ⟨S8704x512, .f32⟩
  | .hbm, ⟨48, _⟩ => ⟨S8704x512, .f32⟩
  | .hbm, ⟨49, _⟩ => ⟨S8704x512, .f32⟩
  | .hbm, ⟨50, _⟩ => ⟨S8704x512, .f32⟩
  | .hbm, ⟨51, _⟩ => ⟨S_, .f32⟩
  | .hbm, ⟨52, _⟩ => ⟨S8704, .f32⟩
  | .hbm, ⟨53, _⟩ => ⟨S8704x1, .f32⟩
  | .hbm, ⟨54, _⟩ => ⟨S_, .f32⟩
  | .hbm, ⟨55, _⟩ => ⟨S8704x1, .f32⟩
  | .hbm, ⟨56, _⟩ => ⟨S8704x1, .f32⟩
  | .hbm, ⟨57, _⟩ => ⟨S_, .f32⟩
  | .hbm, ⟨58, _⟩ => ⟨S8704x1, .f32⟩
  | .hbm, ⟨59, _⟩ => ⟨S8704x1, .f32⟩
  | .hbm, ⟨60, _⟩ => ⟨S8704x1, .f32⟩
  | .hbm, ⟨61, _⟩ => ⟨S8704x512, .f32⟩
  | .hbm, ⟨62, _⟩ => ⟨S8704x512, .f32⟩
  | .hbm, ⟨63, _⟩ => ⟨S8704x512, .f32⟩
  | .hbm, ⟨64, _⟩ => ⟨S8704x512, .f32⟩
  | .hbm, ⟨65, _⟩ => ⟨S8704x32, .f32⟩
  | .hbm, ⟨66, _⟩ => ⟨S8704x32, .f32⟩
  | .hbm, ⟨67, _⟩ => ⟨S8704x32, .f32⟩
  | .hbm, ⟨68, _⟩ => ⟨S8704x32, .f32⟩
  | .hbm, ⟨69, _⟩ => ⟨S8704x32, .f32⟩
  | .hbm, ⟨70, _⟩ => ⟨S8704x32, .f32⟩
  | .hbm, ⟨71, _⟩ => ⟨S8704x32, .f32⟩
  | .hbm, ⟨72, _⟩ => ⟨S8704x32, .f32⟩
  | .hbm, ⟨73, _⟩ => ⟨S8704x32, .f32⟩
  | .hbm, ⟨74, _⟩ => ⟨S8704x32, .f32⟩
  | .hbm, ⟨75, _⟩ => ⟨S8704x32, .f32⟩
  | .hbm, ⟨76, _⟩ => ⟨S8704x32, .f32⟩
  | .hbm, ⟨77, _⟩ => ⟨S8704x64, .f32⟩
  | .hbm, ⟨78, _⟩ => ⟨S16x2048, .f32⟩
  | .hbm, ⟨79, _⟩ => ⟨S8704x2048, .f32⟩
  | .hbm, ⟨80, _⟩ => ⟨S2048x8704, .f32⟩
  | .hbm, ⟨81, _⟩ => ⟨S16x8704, .f32⟩
  | .hbm, ⟨82, _⟩ => ⟨S16x8704, .f32⟩
  | .hbm, ⟨83, _⟩ => ⟨S16x8704, .f32⟩
  | .hbm, ⟨84, _⟩ => ⟨S16x8704, .f32⟩
  | .hbm, ⟨85, _⟩ => ⟨S_, .f32⟩
  | .hbm, ⟨86, _⟩ => ⟨S16x8704, .f32⟩
  | .hbm, ⟨87, _⟩ => ⟨S16x8704, .f32⟩
  | .hbm, ⟨88, _⟩ => ⟨S16x8704, .f32⟩
  | .hbm, ⟨89, _⟩ => ⟨S16x8704, .f32⟩
  | .hbm, ⟨90, _⟩ => ⟨S16x8704, .i1⟩
  | .hbm, ⟨91, _⟩ => ⟨S16x8704, .f32⟩
  | .hbm, ⟨92, _⟩ => ⟨S16x8704, .f32⟩
  | .hbm, ⟨93, _⟩ => ⟨S16x8704, .f32⟩
  | .hbm, ⟨94, _⟩ => ⟨S16x8704, .f32⟩
  | .hbm, ⟨95, _⟩ => ⟨S16x8704, .f32⟩
  | .hbm, ⟨96, _⟩ => ⟨S16x8704, .f32⟩
  | .hbm, ⟨97, _⟩ => ⟨S16x8704, .f32⟩
  | .hbm, ⟨98, _⟩ => ⟨S16x8704, .f32⟩
  | .hbm, ⟨99, _⟩ => ⟨S16x8704, .f32⟩
  | .hbm, ⟨100, _⟩ => ⟨S8704x128, .bf16⟩
  | .hbm, ⟨101, _⟩ => ⟨S8704x128, .bf16⟩
  | .hbm, ⟨102, _⟩ => ⟨S8704x128, .bf16⟩
  | .hbm, ⟨103, _⟩ => ⟨S8704x128, .bf16⟩
  | .hbm, ⟨104, _⟩ => ⟨S8704x512, .bf16⟩
  | .hbm, ⟨105, _⟩ => ⟨S8704x512, .bf16⟩
  | _, _ => ⟨S8704x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_cst_3 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_v0 : Ref sig .tc := ⟨.hbm, 84, rfl⟩
abbrev main_call1_call0_cst : Ref sig .tc := ⟨.hbm, 85, rfl⟩
abbrev main_call1_call0_v0 : Ref sig .tc := ⟨.hbm, 86, rfl⟩
abbrev main_call1_call0_v1 : Ref sig .tc := ⟨.hbm, 87, rfl⟩
abbrev main_call1_call0_v2 : Ref sig .tc := ⟨.hbm, 88, rfl⟩
abbrev main_call1_call0_v3 : Ref sig .tc := ⟨.hbm, 89, rfl⟩
abbrev main_call1_call0_v4 : Ref sig .tc := ⟨.hbm, 90, rfl⟩
abbrev main_call1_call0_v5 : Ref sig .tc := ⟨.hbm, 91, rfl⟩
abbrev main_call1_call0_v6 : Ref sig .tc := ⟨.hbm, 92, rfl⟩
abbrev main_call1_call0_v7 : Ref sig .tc := ⟨.hbm, 93, rfl⟩
abbrev main_call1_call0_v8 : Ref sig .tc := ⟨.hbm, 94, rfl⟩
abbrev main_call1_call0_v9 : Ref sig .tc := ⟨.hbm, 95, rfl⟩
abbrev main_call1_call0_v10 : Ref sig .tc := ⟨.hbm, 96, rfl⟩
abbrev main_call1_call0_v11 : Ref sig .tc := ⟨.hbm, 97, rfl⟩
abbrev main_call1_v1 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩

abbrev nD : Nat := 1
abbrev τ : Topo := Topo.v7x

variable {F : FTy → Type} [FloatOps F]
-- ==== Proof.UpValue.lean ====
/-
  The first half of the MLP: the kernel's result array is the squared ReLU of the product of its two arguments.
  Every grid point writes its own block of the result, a block of rows times a block of columns over the whole
  contracted axis, so the claim is one equation per entry.
-/
module

public import proofs.«01_k».proof.Defs
public import proofs.«01_k».proof.Proof.Gen.UpIdeal.Frame
public import proofs.«01_k».proof.Proof.Gen.UpReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen

variable (m : (ℓ : Loc nD τ sig) → Buf (Elt Ideal) ℓ)

/-- The reference's result over the two arguments. -/
abbrev squaredRelu (x : FVec Ideal Cert.UpReferenceIdeal.S8704x2048 .bf16) (w : FVec Ideal Cert.UpReferenceIdeal.S2048x8192 .bf16) :
    FVec Ideal Cert.UpReferenceIdeal.S8704x8192 .bf16 :=
  let h := Host.dotGeneral Cert.UpReferenceIdeal.dot_S8704x2048_S2048x8192_S8704x8192_1_0_0_1_n_n none
    (extf .f32 x Cert.UpReferenceIdeal.Gen.bitsLt_bf16_f32) (extf .f32 w Cert.UpReferenceIdeal.Gen.bitsLt_bf16_f32)
  let p := maximumf h (broadcastInDim Cert.UpReferenceIdeal.S8704x8192 ![] Cert.UpReferenceIdeal.Gen.bcast_S_S8704x8192
    (constant Cert.UpReferenceIdeal.S_ .f32 0x00000000#32))
  truncf .bf16 (mulf p p) Cert.UpReferenceIdeal.Gen.bitsLt_bf16_f32

/-- Where each window's block sits, at every grid point: 17 row blocks within each of the 8 column blocks. -/
theorem placement : ∀ t : Fin cfg0.N, win0_0.index t = ![t.val % 17, 0] ∧ win0_1.index t = ![0, t.val / 17]
    ∧ win0_2.index t = ![t.val % 17, t.val / 17] ∧ t.val / 17 < 8 :=
  (by decide +kernel : ∀ t : Fin grid0.N, _)

/-- One entry of the block that a grid point stores. -/
theorem entry (c : Dev nD) (t : Fin cfg0.N) (y) : k0_pay1 (iblk m c 0 t) (iblk m c 1 t) y
    = squaredRelu (m ((c : Thread nD τ).loc main_arg0)) (m ((c : Thread nD τ).loc main_arg1)) (((cfg0.win 2).blk t).view.emb y) := by
  pointwise [k0_pay1, squaredRelu]
  blk_point [iblk, V, placement t]

/-- The result array after the run. -/
theorem result (c : Dev nD) : (dats m 0 c).arrAt 2 (cfgs 0).N
    = squaredRelu (m ((c : Thread nD τ).loc main_arg0)) (m ((c : Thread nD τ).loc main_arg1)) := by
  refine (dats m 0 c).arrAt_eq_of_covers 2 _ (by decide +kernel) fun t _ y => ?_
  blk_simp
  rw [after0_2]; frame_out
  exact entry m c t y

end Cert.UpIdeal.Value

namespace Cert.Proof

/-- The kernel and the reference end with equal results. -/
theorem up_value : Cert.algebraic_UpIdeal_UpReferenceIdeal (hUpIdeal := Cert.UpIdeal.Gen.facts)
    (hUpReferenceIdeal := Cert.UpReferenceIdeal.Gen.facts) := by
  pair_intro
  · run_from Cert.UpIdeal.Gen.run_main m g
  · run_from Cert.UpReferenceIdeal.Value.run m' g'
    exact (Cert.UpIdeal.Value.result m c).symm

end Cert.Proof

end
-- ==== Proof.DownValue.lean ====
/-
  The second half of the MLP, its residual and its layer norm: eight grid points in a row add up the product of one
  block of rows, and the last of them norms it. The eight partial sums are one sum over the contracted axis, which is
  regrouped here; the norm that follows is the reference's own.
-/
module

public import proofs.«01_k».proof.Defs
public import proofs.«01_k».proof.Proof.Gen.DownIdeal.Frame
public import proofs.«01_k».proof.Proof.Gen.DownReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable (m : (ℓ : Loc nD τ sig) → Buf (Elt Ideal) ℓ)

/-- The type of the two row arrays and of the result. -/
abbrev Rows := FVec Ideal Cert.DownReferenceIdeal.S8704x2048 .f32

/-- The product of the two matrices. -/
def product (a : FVec Ideal Cert.DownReferenceIdeal.S8704x8192 .bf16) (w : FVec Ideal Cert.DownReferenceIdeal.S8192x2048 .bf16) : Rows :=
  Host.dotGeneral Cert.DownReferenceIdeal.dot_S8704x8192_S8192x2048_S8704x2048_1_0_0_1_n_n none
    (extf .f32 a Cert.DownReferenceIdeal.Gen.bitsLt_bf16_f32) (extf .f32 w Cert.DownReferenceIdeal.Gen.bitsLt_bf16_f32)

/-- The scaled residual plus the branch's output. -/
abbrev residual (z x : Rows) : Rows :=
  addf (mulf (broadcastInDim Cert.DownReferenceIdeal.S8704x2048 ![] Cert.DownReferenceIdeal.Gen.bcast_S_S8704x2048
    (constant Cert.DownReferenceIdeal.S_ .f32 0x3FB504F3#32)) x) z

/-- The mean of every row. -/
abbrev rowMean (y : Rows) : FVec Ideal Cert.DownReferenceIdeal.S8704x1 .f32 :=
  Host.divf (broadcastInDim Cert.DownReferenceIdeal.S8704x1 ![0] Cert.DownReferenceIdeal.Gen.bcast_S8704_S8704x1_0
      (Host.reduceAdd y (constant Cert.DownReferenceIdeal.S_ .f32 0x00000000#32)
        Cert.DownReferenceIdeal.Gen.reducesTo_S8704x2048_S8704_d1 Cert.DownReferenceIdeal.Gen.h_S_))
    (broadcastInDim Cert.DownReferenceIdeal.S8704x1 ![] Cert.DownReferenceIdeal.Gen.bcast_S_S8704x1
      (constant Cert.DownReferenceIdeal.S_ .f32 0x45000000#32))

/-- Every row less its mean. -/
abbrev centred (y : Rows) : Rows :=
  subf y (broadcastInDim Cert.DownReferenceIdeal.S8704x2048 ![0, 1] Cert.DownReferenceIdeal.Gen.bcast_S8704x1_S8704x2048_0_1 (rowMean y))

/-- The layer norm of the scaled residual plus the branch's output `z`. -/
abbrev normed (z x : Rows) (g b : FVec Ideal Cert.DownReferenceIdeal.S1x2048 .f32) : Rows :=
  addf (mulf (mulf (centred (residual z x))
      (broadcastInDim Cert.DownReferenceIdeal.S8704x2048 ![0, 1] Cert.DownReferenceIdeal.Gen.bcast_S8704x1_S8704x2048_0_1
        (Host.rsqrt (addf (rowMean (mulf (centred (residual z x)) (centred (residual z x))))
          (broadcastInDim Cert.DownReferenceIdeal.S8704x1 ![] Cert.DownReferenceIdeal.Gen.bcast_S_S8704x1
            (constant Cert.DownReferenceIdeal.S_ .f32 0x3727C5AC#32))))))
      (broadcastInDim Cert.DownReferenceIdeal.S8704x2048 ![0, 1] Cert.DownReferenceIdeal.Gen.bcast_S1x2048_S8704x2048_0_1 g))
    (broadcastInDim Cert.DownReferenceIdeal.S8704x2048 ![0, 1] Cert.DownReferenceIdeal.Gen.bcast_S1x2048_S8704x2048_0_1 b)

/-- The array of products that the launch's first two arguments make. -/
abbrev branch (c : Dev nD) : Rows := product (m ((c : Thread nD τ).loc main_arg0)) (m ((c : Thread nD τ).loc main_arg1))

/-- The result that the launch's arguments make. -/
abbrev expected (c : Dev nD) : Rows :=
  normed (branch m c) (m ((c : Thread nD τ).loc main_arg2)) (m ((c : Thread nD τ).loc main_arg3)) (m ((c : Thread nD τ).loc main_arg4))

/-- Where each window stands at every grid point. -/
theorem placement : ∀ t : Fin cfg0.N, win0_0.index t = ![t.val / 8, t.val % 8] ∧ win0_1.index t = ![t.val % 8, 0]
    ∧ win0_2.index t = ![t.val / 8, 0] ∧ win0_3.index t = ![0, 0] ∧ win0_4.index t = ![0, 0]
    ∧ win0_5.index t = ![t.val / 8, 0] ∧ win0_6.index t = ![t.val / 8, 0] :=
  (by decide +kernel : ∀ t : Fin grid0.N, _)

theorem zero_entry (j) : k0_pay1 (F := Ideal) j = 0 := by pointwise [k0_pay1]

theorem part_entry (acc : FVec Ideal S512x2048 .f32) (x : FVec Ideal S512x1024 .bf16) (w : FVec Ideal S1024x2048 .bf16) (j) :
    k0_pay2 acc x w j = acc j + ∑ k : Fin 1024, x (ix2 (j 0) k) * w (ix2 k (j 1)) := by pointwise [k0_pay2]

theorem product_entry (a : FVec Ideal Cert.DownReferenceIdeal.S8704x8192 .bf16) (w : FVec Ideal Cert.DownReferenceIdeal.S8192x2048 .bf16) (j) :
    product a w j = ∑ k : Fin 8192, a (ix2 (j 0) k) * w (ix2 k (j 1)) := by pointwise [product]

/-- At the last point of a run over the contracted axis the accumulator holds the whole product. -/
theorem total (c : Dev nD) (t : Fin cfg0.N) (h1 : t.val % 8 = 7) (j) :
    (outsAt0 m c t.val t.isLt).2.2 j = branch m c (((cfg0.win 5).blk t).view.emb j) := by
  rw [Pipeline.eq_sum_fin_of_reset_step_apply_of_flush (fun n h => (outsAt0 m c n h).2.2) 8 (fun _ => 0) _
    (fun t h j => by rw [outsAt0_A m c t h (by omega)]; frame_out; rw [part_entry, zero_entry])
    (fun t h j => by
      by_cases h1 : t.val % 8 = 7
      · rw [outsAt0_C m c t h h1]; frame_out; rw [read_unread_whole]; rw [part_entry]
      · rw [outsAt0_B m c t h h1]; frame_out; rw [read_unread_whole]; rw [part_entry])
    t h1 _, zero_add]
  rw [branch, product_entry]
  refine Fin.sum_mul_add_congr fun s k hl => ?_
  blk_point [iblk, V, placement t, placement ⟨_, Pipeline.run_point_lt_of_flush t h1 s⟩]

/-- The normed block of a grid point, from a block that holds the rows of a whole array `z`. -/
theorem norm_entry (c : Dev nD) (t : Fin cfg0.N) (q : FVec Ideal S512x2048 .f32) (z : Rows)
    (hq : ∀ j, q j = z (((cfg0.win 5).blk t).view.emb j)) (y) :
    k0_pay3 (iblk m c 2 t) q (iblk m c 3 t) (iblk m c 4 t) y
      = normed z (m ((c : Thread nD τ).loc main_arg2)) (m ((c : Thread nD τ).loc main_arg3)) (m ((c : Thread nD τ).loc main_arg4))
        (((cfg0.win 5).blk t).view.emb y) := by
  pointwise [k0_pay3, normed, centred, rowMean, residual]
  simp only [hq]
  blk_point [iblk, V, placement t]

/-- The rounded copy of the normed block. -/
theorem round_entry (c : Dev nD) (t : Fin cfg0.N) (q : FVec Ideal S512x2048 .f32) (z : Rows)
    (hq : ∀ j, q j = z (((cfg0.win 5).blk t).view.emb j)) (y) :
    k0_pay4 (iblk m c 2 t) q (iblk m c 3 t) (iblk m c 4 t) y
      = normed z (m ((c : Thread nD τ).loc main_arg2)) (m ((c : Thread nD τ).loc main_arg3)) (m ((c : Thread nD τ).loc main_arg4))
        (((cfg0.win 5).blk t).view.emb y) :=
  norm_entry m c t q z hq y

/-- The accumulator that the last point of a run reads back. -/
theorem total_read (c : Dev nD) (t : Fin cfg0.N) (h0 : ¬ t.val % 8 = 0) (h1 : t.val % 8 = 7) (j) :
    k0_pay2 (outsAt0 m c (t.val - 1) (Nat.lt_of_le_of_lt (Nat.sub_le _ _) t.isLt)).2.2 (iblk m c 0 t) (iblk m c 1 t) j
      = branch m c (((cfg0.win 5).blk t).view.emb j) := by
  rw [← total m c t h1 j, outsAt0_C m c t h0 h1]
  frame_out
  rw [read_unread_whole]

/-- The result in float32. -/
theorem result (c : Dev nD) : (dats m 0 c).arrAt 5 (cfgs 0).N = expected m c := by
  refine (dats m 0 c).arrAt_eq_of_covers 5 _ (by decide +kernel) fun t hf y => ?_
  have h1 : t.val % 8 = 7 := (flush0_5 t).mp hf
  have h0 : ¬ t.val % 8 = 0 := by omega
  blk_simp
  rw [after0_5, outsAt0_C m c t h0 h1]; frame_out
  rw [read_unread_whole]
  exact norm_entry m c t _ _ (total_read m c t h0 h1) y

/-- The result rounded for the next product. -/
theorem result_rounded (c : Dev nD) :
    (dats m 0 c).arrAt 6 (cfgs 0).N = truncf .bf16 (expected m c) Cert.DownReferenceIdeal.Gen.bitsLt_bf16_f32 := by
  refine (dats m 0 c).arrAt_eq_of_covers 6 _ (by decide +kernel) fun t hf y => ?_
  have h1 : t.val % 8 = 7 := (flush0_6 t).mp hf
  have h0 : ¬ t.val % 8 = 0 := by omega
  blk_simp
  rw [after0_6, outsAt0_C m c t h0 h1]; frame_out
  rw [read_unread_whole]
  exact round_entry m c t _ _ (total_read m c t h0 h1) y

end Cert.DownIdeal.Value

namespace Cert.Proof

/-- The kernel and the reference end with equal results. -/
theorem down_value : Cert.algebraic_DownIdeal_DownReferenceIdeal (hDownIdeal := Cert.DownIdeal.Gen.facts)
    (hDownReferenceIdeal := Cert.DownReferenceIdeal.Gen.facts) := by
  pair_intro
  · run_from Cert.DownIdeal.Gen.run_main m g
  · run_from Cert.DownReferenceIdeal.Value.run m' g'
    · exact (Cert.DownIdeal.Value.result m c).symm
    · exact (Cert.DownIdeal.Value.result_rounded m c).symm

end Cert.Proof

end
-- ==== Proof.OutValue.lean ====
/-
  The output projection, its residual and its layer norm: every grid point makes a block of whole rows, so the
  kernel's two results are those of the reference entry by entry.
-/
module

public import proofs.«01_k».proof.Defs
public import proofs.«01_k».proof.Proof.Gen.OutIdeal.Frame
public import proofs.«01_k».proof.Proof.Gen.OutReferenceIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ)

/-- The type of the two row arrays and of the result. -/
abbrev Rows := FVec Ideal Cert.OutReferenceIdeal.S8704x2048 .f32

/-- The product of the two matrices. -/
def product (a : FVec Ideal Cert.OutReferenceIdeal.S8704x2048 .bf16) (w : FVec Ideal Cert.OutReferenceIdeal.S2048x2048 .bf16) : Rows :=
  Host.dotGeneral Cert.OutReferenceIdeal.dot_S8704x2048_S2048x2048_S8704x2048_1_0_0_1_n_n none
    (extf .f32 a Cert.OutReferenceIdeal.Gen.bitsLt_bf16_f32) (extf .f32 w Cert.OutReferenceIdeal.Gen.bitsLt_bf16_f32)

/-- The scaled residual plus the branch's output. -/
abbrev residual (z x : Rows) : Rows :=
  addf (mulf (broadcastInDim Cert.OutReferenceIdeal.S8704x2048 ![] Cert.OutReferenceIdeal.Gen.bcast_S_S8704x2048
    (constant Cert.OutReferenceIdeal.S_ .f32 0x3FB504F3#32)) x) z

/-- The mean of every row. -/
abbrev rowMean (y : Rows) : FVec Ideal Cert.OutReferenceIdeal.S8704x1 .f32 :=
  Host.divf (broadcastInDim Cert.OutReferenceIdeal.S8704x1 ![0] Cert.OutReferenceIdeal.Gen.bcast_S8704_S8704x1_0
      (Host.reduceAdd y (constant Cert.OutReferenceIdeal.S_ .f32 0x00000000#32)
        Cert.OutReferenceIdeal.Gen.reducesTo_S8704x2048_S8704_d1 Cert.OutReferenceIdeal.Gen.h_S_))
    (broadcastInDim Cert.OutReferenceIdeal.S8704x1 ![] Cert.OutReferenceIdeal.Gen.bcast_S_S8704x1
      (constant Cert.OutReferenceIdeal.S_ .f32 0x45000000#32))

/-- Every row less its mean. -/
abbrev centred (y : Rows) : Rows :=
  subf y (broadcastInDim Cert.OutReferenceIdeal.S8704x2048 ![0, 1] Cert.OutReferenceIdeal.Gen.bcast_S8704x1_S8704x2048_0_1 (rowMean y))

/-- The layer norm of the scaled residual plus the branch's output `z`. -/
abbrev normed (z x : Rows) (g b : FVec Ideal Cert.OutReferenceIdeal.S1x2048 .f32) : Rows :=
  addf (mulf (mulf (centred (residual z x))
      (broadcastInDim Cert.OutReferenceIdeal.S8704x2048 ![0, 1] Cert.OutReferenceIdeal.Gen.bcast_S8704x1_S8704x2048_0_1
        (Host.rsqrt (addf (rowMean (mulf (centred (residual z x)) (centred (residual z x))))
          (broadcastInDim Cert.OutReferenceIdeal.S8704x1 ![] Cert.OutReferenceIdeal.Gen.bcast_S_S8704x1
            (constant Cert.OutReferenceIdeal.S_ .f32 0x3727C5AC#32))))))
      (broadcastInDim Cert.OutReferenceIdeal.S8704x2048 ![0, 1] Cert.OutReferenceIdeal.Gen.bcast_S1x2048_S8704x2048_0_1 g))
    (broadcastInDim Cert.OutReferenceIdeal.S8704x2048 ![0, 1] Cert.OutReferenceIdeal.Gen.bcast_S1x2048_S8704x2048_0_1 b)

/-- The array of products that the launch's first two arguments make. -/
abbrev branch (c : Dev nD) : Rows := product (m ((c : Thread nD τ).loc main_arg0)) (m ((c : Thread nD τ).loc main_arg1))

/-- The result that the launch's arguments make. -/
abbrev expected (c : Dev nD) : Rows :=
  normed (branch m c) (m ((c : Thread nD τ).loc main_arg2)) (m ((c : Thread nD τ).loc main_arg3)) (m ((c : Thread nD τ).loc main_arg4))

/-- Where each window stands at every grid point. -/
theorem placement : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The block of products that a grid point makes. -/
theorem product_entry (c : Dev nD) (t : Fin cfg0.N) (y) :
    k0_pay2 k0_pay1 (iblk m c 0 t) (iblk m c 1 t) y = branch m c (((cfg0.win 5).blk t).view.emb y) := by
  pointwise [k0_pay2, k0_pay1, branch, product]
  blk_point [iblk, V, placement t]

/-- The normed block of a grid point, from a block that holds the rows of a whole array `z`. -/
theorem norm_entry (c : Dev nD) (t : Fin cfg0.N) (q : FVec Ideal S256x2048 .f32) (z : Rows)
    (hq : ∀ j, q j = z (((cfg0.win 5).blk t).view.emb j)) (y) :
    k0_pay3 (iblk m c 2 t) q (iblk m c 3 t) (iblk m c 4 t) y
      = normed z (m ((c : Thread nD τ).loc main_arg2)) (m ((c : Thread nD τ).loc main_arg3)) (m ((c : Thread nD τ).loc main_arg4))
        (((cfg0.win 5).blk t).view.emb y) := by
  pointwise [k0_pay3, normed, centred, rowMean, residual]
  simp only [hq]
  blk_point [iblk, V, placement t]

/-- The rounded copy of the normed block. -/
theorem round_entry (c : Dev nD) (t : Fin cfg0.N) (q : FVec Ideal S256x2048 .f32) (z : Rows)
    (hq : ∀ j, q j = z (((cfg0.win 5).blk t).view.emb j)) (y) :
    k0_pay4 (iblk m c 2 t) q (iblk m c 3 t) (iblk m c 4 t) y
      = normed z (m ((c : Thread nD τ).loc main_arg2)) (m ((c : Thread nD τ).loc main_arg3)) (m ((c : Thread nD τ).loc main_arg4))
        (((cfg0.win 5).blk t).view.emb y) :=
  norm_entry m c t q z hq y

/-- The result in float32. -/
theorem result (c : Dev nD) : (dats m 0 c).arrAt 5 (cfgs 0).N = expected m c := by
  refine (dats m 0 c).arrAt_eq_of_covers 5 _ (by decide +kernel) fun t _ y => ?_
  blk_simp
  rw [after0_5]; unfold outsAt0; frame_out
  exact norm_entry m c t _ _ (product_entry m c t) y

/-- The result rounded for the next product. -/
theorem result_rounded (c : Dev nD) :
    (dats m 0 c).arrAt 6 (cfgs 0).N = truncf .bf16 (expected m c) Cert.OutReferenceIdeal.Gen.bitsLt_bf16_f32 := by
  refine (dats m 0 c).arrAt_eq_of_covers 6 _ (by decide +kernel) fun t _ y => ?_
  blk_simp
  rw [after0_6]; unfold outsAt0; frame_out
  exact round_entry m c t _ _ (product_entry m c t) y

end Cert.OutIdeal.Value

namespace Cert.Proof

/-- The kernel and the reference end with equal results. -/
theorem out_value : Cert.algebraic_OutIdeal_OutReferenceIdeal (hOutIdeal := Cert.OutIdeal.Gen.facts)
    (hOutReferenceIdeal := Cert.OutReferenceIdeal.Gen.facts) := by
  pair_intro
  · run_from Cert.OutIdeal.Gen.run_main m g
  · run_from Cert.OutReferenceIdeal.Value.run m' g'
    · exact (Cert.OutIdeal.Value.result m c).symm
    · exact (Cert.OutIdeal.Value.result_rounded m c).symm

end Cert.Proof

end
-- ==== Proof.InValue.lean ====
/-
  The combined input projection: the kernel's result array is the product of its two arguments.
  Every grid point writes its own block of the result, a block of rows times a block of columns over the whole
  contracted axis, so the claim is one equation per entry.
-/
module

public import proofs.«01_k».proof.Defs
public import proofs.«01_k».proof.Proof.Gen.InIdeal.Frame
public import proofs.«01_k».proof.Proof.Gen.InReferenceIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InIdeal.Value

open Cert.InIdeal Cert.InIdeal.Gen

variable (m : (ℓ : Loc nD τ sig) → Buf (Elt Ideal) ℓ)

/-- The reference's result over the two arguments. -/
abbrev product (x : FVec Ideal Cert.InReferenceIdeal.S8704x2048 .bf16) (w : FVec Ideal Cert.InReferenceIdeal.S2048x2688 .bf16) :
    FVec Ideal Cert.InReferenceIdeal.S8704x2688 .f32 :=
  Host.dotGeneral Cert.InReferenceIdeal.dot_S8704x2048_S2048x2688_S8704x2688_1_0_0_1_n_n none
    (extf .f32 x Cert.InReferenceIdeal.Gen.bitsLt_bf16_f32) (extf .f32 w Cert.InReferenceIdeal.Gen.bitsLt_bf16_f32)

/-- Where each window's block sits, at every grid point: 17 row blocks within each of the 3 column blocks. -/
theorem placement : ∀ t : Fin cfg0.N, win0_0.index t = ![t.val % 17, 0] ∧ win0_1.index t = ![0, t.val / 17]
    ∧ win0_2.index t = ![t.val % 17, t.val / 17] ∧ t.val / 17 < 3 :=
  (by decide +kernel : ∀ t : Fin grid0.N, _)

/-- One entry of the block that a grid point stores. -/
theorem entry (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, placement t]

/-- The result array after the run. -/
theorem result (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact entry m c t y

end Cert.InIdeal.Value

namespace Cert.Proof

/-- The kernel and the reference end with equal results. -/
theorem in_value : Cert.algebraic_InIdeal_InReferenceIdeal (hInIdeal := Cert.InIdeal.Gen.facts)
    (hInReferenceIdeal := Cert.InReferenceIdeal.Gen.facts) := by
  pair_intro
  · run_from Cert.InIdeal.Gen.run_main m g
  · run_from Cert.InReferenceIdeal.Value.run m' g'
    exact (Cert.InIdeal.Value.result m c).symm

end Cert.Proof

end
-- ==== Proof.PostIdealFrame.lean ====
/-
  The projection stage that splits the input projection's columns: its run, at any arithmetic.
  Four of its eighteen result arrays are not named here: they are laid out for the attention kernels alone. One of the
  four is a running sum kept in a scratch buffer from grid point to grid point. The scratch buffer is held at some
  contents throughout, and the run says nothing of what the four arrays end with. Each of the other fourteen arrays is
  stored whole at every grid point, from that point's argument blocks only, and the run names its contents.
-/
module

public import proofs.«01_k».proof.Proof.Gen.PostIdeal.Frame
public import proofs.«01_k».proof.Proof.Gen.PostIdeal.Skeleton
public import Idealize.ShloMosaic.Lib.Claim

@[expose] public section

set_option maxRecDepth 16384

noncomputable section

namespace Cert.PostIdeal.Split

open Cert.PostIdeal Cert.PostIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles that the body reads and writes -/

abbrev uFk : Rect S256x2688 := Rect.unit (s := S256x2688) ![0, 512] S256x128.size inb_S256x2688_S256x128_0_512
abbrev uFv : Rect S256x2688 := Rect.unit (s := S256x2688) ![0, 640] S256x128.size inb_S256x2688_S256x128_0_640
abbrev uSk : Rect S256x2688 := Rect.unit (s := S256x2688) ![0, 1280] S256x128.size inb_S256x2688_S256x128_0_1280
abbrev uSv : Rect S256x2688 := Rect.unit (s := S256x2688) ![0, 1408] S256x128.size inb_S256x2688_S256x128_0_1408
abbrev uCq : Rect S256x2688 := Rect.unit (s := S256x2688) ![0, 1536] S256x512.size inb_S256x2688_S256x512_0_1536
abbrev uCkv : Rect S256x2688 := Rect.unit (s := S256x2688) ![0, 2048] S256x512.size inb_S256x2688_S256x512_0_2048
abbrev uKr : Rect S256x2688 := Rect.unit (s := S256x2688) ![0, 2560] S256x128.size inb_S256x2688_S256x128_0_2560
abbrev all256x128 : Rect S256x128 := Rect.unit (s := S256x128) ![0, 0] S256x128.size inb_S256x128_S256x128_0_0
abbrev all256x8 : Rect S256x8 := Rect.unit (s := S256x8) ![0, 0] S256x8.size inb_S256x8_S256x8_0_0
abbrev all16x256 : Rect S16x256 := Rect.unit (s := S16x256) ![0, 0] S16x256.size inb_S16x256_S16x256_0_0
abbrev all256x512 : Rect S256x512 := Rect.unit (s := S256x512) ![0, 0] S256x512.size inb_S256x512_S256x512_0_0
abbrev all256x64 : Rect S256x64 := Rect.unit (s := S256x64) ![0, 0] S256x64.size inb_S256x64_S256x64_0_0
abbrev all256x2048 : Rect S256x2048 := Rect.unit (s := S256x2048) ![0, 0] S256x2048.size inb_S256x2048_S256x2048_0_0
abbrev all16x2048 : Rect S16x2048 := Rect.unit (s := S16x2048) ![0, 0] S16x2048.size inb_S16x2048_S16x2048_0_0
abbrev all16x1 : Rect S16x1 := Rect.unit (s := S16x1) ![0, 0] S16x1.size inb_S16x1_S16x1_0_0
abbrev all1x128 : Rect S1x128 := Rect.unit (s := S1x128) ![0, 0] S1x128.size inb_S1x128_S1x128_0_0
abbrev all1x512 : Rect S1x512 := Rect.unit (s := S1x512) ![0, 0] S1x512.size inb_S1x512_S1x512_0_0

/-! ## What the body stores, from the blocks of the arguments -/

/-- The contents of output window 10 after the body. -/
def out0_10 (x0 : Vec F S256x2688 .f32) : Vec F S256x128 .f32 :=
  View.canon [⟨all256x128, View.ld x0 uFk⟩]

/-- The contents of output window 11 after the body. -/
def out0_11 (x0 : Vec F S256x2688 .f32) : Vec F S256x128 .f32 :=
  View.canon [⟨all256x128, View.ld x0 uFv⟩]

/-- The contents of output window 12 after the body. -/
def out0_12 (x0 : Vec F S256x2688 .f32) : Vec F S256x128 .bf16 :=
  View.canon [⟨all256x128, k0_pay24 (View.ld x0 uFk)⟩]

/-- The contents of output window 13 after the body. -/
def out0_13 (x0 : Vec F S256x2688 .f32) : Vec F S256x128 .bf16 :=
  View.canon [⟨all256x128, k0_pay25 (View.ld x0 uFv)⟩]

/-- The contents of output window 14 after the body. -/
def out0_14 (x0 : Vec F S256x2688 .f32) (x4 : Vec F S1x128 .f32) : Vec F S256x8 .f32 :=
  View.canon [⟨all256x8, k0_pay37 (k0_pay35 (View.ld x0 uKr) (View.ld x4 all1x128)) (k0_pay36 (View.ld x0 uKr) (View.ld x4 all1x128))⟩]

/-- The contents of output window 16 after the body. -/
def out0_16 (x1 : Vec F S256x2048 .bf16) (x2 : Vec F S16x2048 .bf16) (x3 : Vec F S16x1 .f32) : Vec F S16x256 .f32 :=
  View.canon [⟨all16x256, k0_pay38 (View.ld x2 all16x2048) (View.ld x1 all256x2048) (View.ld x3 all16x1)⟩]

/-- The contents of output window 18 after the body. -/
def out0_18 (x0 : Vec F S256x2688 .f32) : Vec F S256x128 .f32 :=
  View.canon [⟨all256x128, View.ld x0 uSk⟩]

/-- The contents of output window 19 after the body. -/
def out0_19 (x0 : Vec F S256x2688 .f32) : Vec F S256x128 .f32 :=
  View.canon [⟨all256x128, View.ld x0 uSv⟩]

/-- The contents of output window 20 after the body. -/
def out0_20 (x0 : Vec F S256x2688 .f32) : Vec F S256x128 .bf16 :=
  View.canon [⟨all256x128, k0_pay26 (View.ld x0 uSk)⟩]

/-- The contents of output window 21 after the body. -/
def out0_21 (x0 : Vec F S256x2688 .f32) : Vec F S256x128 .bf16 :=
  View.canon [⟨all256x128, k0_pay27 (View.ld x0 uSv)⟩]

/-- The contents of output window 22 after the body. -/
def out0_22 (x0 : Vec F S256x2688 .f32) (x5 : Vec F S1x512 .f32) : Vec F S256x512 .bf16 :=
  View.canon [⟨all256x512, k0_pay28 (View.ld x0 uCq) (View.ld x5 all1x512)⟩]

/-- The contents of output window 23 after the body. -/
def out0_23 (x0 : Vec F S256x2688 .f32) (x6 : Vec F S1x512 .f32) : Vec F S256x512 .f32 :=
  View.canon [⟨all256x512, k0_pay30 (View.ld x0 uCkv) (k0_pay29 (View.ld x0 uCkv)) (Scalar.ofBits .f32 0x44000000#32) (View.ld x6 all1x512)⟩]

/-- The contents of output window 24 after the body. -/
def out0_24 (x0 : Vec F S256x2688 .f32) (x6 : Vec F S1x512 .f32) : Vec F S256x512 .bf16 :=
  View.canon [⟨all256x512, k0_pay31 (View.ld x0 uCkv) (k0_pay29 (View.ld x0 uCkv)) (Scalar.ofBits .f32 0x44000000#32) (View.ld x6 all1x512)⟩]

/-- The contents of output window 25 after the body. -/
def out0_25 (x0 : Vec F S256x2688 .f32) (x7 : Vec F S256x128 .f32) (x8 : Vec F S256x128 .f32) : Vec F S256x64 .f32 :=
  View.canon [⟨all256x64, k0_pay33 (iota .tc S256x128 32 [1] iota_S256x128_d1_w32) (View.ld x0 uKr) (View.ld x7 all256x128) (View.ld x8 all256x128)⟩]

/-- A whole store leaves no entry of such a buffer out. -/
theorem whole16x256_f32 (p : Vec F S16x256 .f32) (y : S16x256.Idx) :
    ∃ pc ∈ ([⟨all16x256, p⟩] : List (View.Piece (Elt F) S16x256 .f32)), y ∈ pc.1.set :=
  View.cover_of_tiled [⟨all16x256, p⟩] S16x256.size (by rfl) y

/-- A whole store leaves no entry of such a buffer out. -/
theorem whole256x128_bf16 (p : Vec F S256x128 .bf16) (y : S256x128.Idx) :
    ∃ pc ∈ ([⟨all256x128, p⟩] : List (View.Piece (Elt F) S256x128 .bf16)), y ∈ pc.1.set :=
  View.cover_of_tiled [⟨all256x128, p⟩] S256x128.size (by rfl) y

/-- A whole store leaves no entry of such a buffer out. -/
theorem whole256x128_f32 (p : Vec F S256x128 .f32) (y : S256x128.Idx) :
    ∃ pc ∈ ([⟨all256x128, p⟩] : List (View.Piece (Elt F) S256x128 .f32)), y ∈ pc.1.set :=
  View.cover_of_tiled [⟨all256x128, p⟩] S256x128.size (by rfl) y

/-- A whole store leaves no entry of such a buffer out. -/
theorem whole256x512_bf16 (p : Vec F S256x512 .bf16) (y : S256x512.Idx) :
    ∃ pc ∈ ([⟨all256x512, p⟩] : List (View.Piece (Elt F) S256x512 .bf16)), y ∈ pc.1.set :=
  View.cover_of_tiled [⟨all256x512, p⟩] S256x512.size (by rfl) y

/-- A whole store leaves no entry of such a buffer out. -/
theorem whole256x512_f32 (p : Vec F S256x512 .f32) (y : S256x512.Idx) :
    ∃ pc ∈ ([⟨all256x512, p⟩] : List (View.Piece (Elt F) S256x512 .f32)), y ∈ pc.1.set :=
  View.cover_of_tiled [⟨all256x512, p⟩] S256x512.size (by rfl) y

/-- A whole store leaves no entry of such a buffer out. -/
theorem whole256x64_f32 (p : Vec F S256x64 .f32) (y : S256x64.Idx) :
    ∃ pc ∈ ([⟨all256x64, p⟩] : List (View.Piece (Elt F) S256x64 .f32)), y ∈ pc.1.set :=
  View.cover_of_tiled [⟨all256x64, p⟩] S256x64.size (by rfl) y

/-- A whole store leaves no entry of such a buffer out. -/
theorem whole256x8_f32 (p : Vec F S256x8 .f32) (y : S256x8.Idx) :
    ∃ pc ∈ ([⟨all256x8, p⟩] : List (View.Piece (Elt F) S256x8 .f32)), y ∈ pc.1.set :=
  View.cover_of_tiled [⟨all256x8, p⟩] S256x8.size (by rfl) y

/-! ## The body's run -/

set_option maxHeartbeats 4000000 in
/-- The body on whole buffers: the arguments' blocks stay, the fourteen named outputs end with the contents above, the
    other outputs and the scratch buffer end with some contents. -/
theorem sound_kernel (c : Dev nD) (E : Set ℕ) (i : grid0.Coords) (arg1 : Memref sig .tc .vmem S256x2688 .f32) (harg1 : arg1.IsWhole) (arg2 : Memref sig .tc .vmem S256x2048 .bf16) (harg2 : arg2.IsWhole) (arg3 : Memref sig .tc .vmem S16x2048 .bf16) (harg3 : arg3.IsWhole) (arg4 : Memref sig .tc .vmem S16x1 .f32) (harg4 : arg4.IsWhole) (arg5 : Memref sig .tc .vmem S1x128 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S8x256x128 .bf16) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .bf16) (harg13 : arg13.IsWhole) (arg14 : Memref sig .tc .vmem S256x128 .bf16) (harg14 : arg14.IsWhole) (arg15 : Memref sig .tc .vmem S256x8 .f32) (harg15 : arg15.IsWhole) (arg16 : Memref sig .tc .vmem S16x256 .f32) (harg16 : arg16.IsWhole) (arg17 : Memref sig .tc .vmem S16x256 .f32) (harg17 : arg17.IsWhole) (arg18 : Memref sig .tc .vmem S8x256x128 .bf16) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .bf16) (harg21 : arg21.IsWhole) (arg22 : Memref sig .tc .vmem S256x128 .bf16) (harg22 : arg22.IsWhole) (arg23 : Memref sig .tc .vmem S256x512 .bf16) (harg23 : arg23.IsWhole) (arg24 : Memref sig .tc .vmem S256x512 .f32) (harg24 : arg24.IsWhole) (arg25 : Memref sig .tc .vmem S256x512 .bf16) (harg25 : arg25.IsWhole) (arg26 : Memref sig .tc .vmem S256x64 .f32) (harg26 : arg26.IsWhole) (arg27 : Memref sig .tc .vmem S256x128 .bf16) (harg27 : arg27.IsWhole) (arg28 : Memref sig .tc .vmem S16x1 .f32) (harg28 : arg28.IsWhole)
    (x0 : Vec F S256x2688 .f32) (x1 : Vec F S256x2048 .bf16) (x2 : Vec F S16x2048 .bf16) (x3 : Vec F S16x1 .f32) (x4 : Vec F S1x128 .f32) (x5 : Vec F S1x512 .f32) (x6 : Vec F S1x512 .f32) (x7 : Vec F S256x128 .f32) (x8 : Vec F S256x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ (∃ d, owns (c : Thread nD τ) arg28 fullShare d)
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ owns (c : Thread nD τ) arg11 fullShare (out0_10 x0)
        ∗ owns (c : Thread nD τ) arg12 fullShare (out0_11 x0)
        ∗ owns (c : Thread nD τ) arg13 fullShare (out0_12 x0)
        ∗ owns (c : Thread nD τ) arg14 fullShare (out0_13 x0)
        ∗ owns (c : Thread nD τ) arg15 fullShare (out0_14 x0 x4)
        ∗ (∃ d, owns (c : Thread nD τ) arg16 fullShare d)
        ∗ owns (c : Thread nD τ) arg17 fullShare (out0_16 x1 x2 x3)
        ∗ (∃ d, owns (c : Thread nD τ) arg18 fullShare d)
        ∗ owns (c : Thread nD τ) arg19 fullShare (out0_18 x0)
        ∗ owns (c : Thread nD τ) arg20 fullShare (out0_19 x0)
        ∗ owns (c : Thread nD τ) arg21 fullShare (out0_20 x0)
        ∗ owns (c : Thread nD τ) arg22 fullShare (out0_21 x0)
        ∗ owns (c : Thread nD τ) arg23 fullShare (out0_22 x0 x5)
        ∗ owns (c : Thread nD τ) arg24 fullShare (out0_23 x0 x6)
        ∗ owns (c : Thread nD τ) arg25 fullShare (out0_24 x0 x6)
        ∗ owns (c : Thread nD τ) arg26 fullShare (out0_25 x0 x7 x8)
        ∗ (∃ d, owns (c : Thread nD τ) arg27 fullShare d)
        ∗ (∃ d, owns (c : Thread nD τ) arg28 fullShare d)) -∗ K ⟨⟩))
      ⊢ wp frame (wpE (defs₀ (F := F)) Variants.none c none) E (cc0_post_projection i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_post_projection_eq_skeleton]; unfold cc0_post_projection_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%ds, %fs, -, HS⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr
    swap; · iexact H9
    ipureintro; rfl
  isplitl [H10]
  · iexists _; isplitr
    swap; · iexact H10
    ipureintro
    exact View.read_writes_eq_canon _ _ _ (whole256x128_f32 _)
  isplitl [H11]
  · iexists _; isplitr
    swap; · iexact H11
    ipureintro
    exact View.read_writes_eq_canon _ _ _ (whole256x128_f32 _)
  isplitl [H12]
  · iexists _; isplitr
    swap; · iexact H12
    ipureintro
    exact View.read_writes_eq_canon _ _ _ (whole256x128_bf16 _)
  isplitl [H13]
  · iexists _; isplitr
    swap; · iexact H13
    ipureintro
    exact View.read_writes_eq_canon _ _ _ (whole256x128_bf16 _)
  isplitl [H14]
  · iexists _; isplitr
    swap; · iexact H14
    ipureintro
    exact View.read_writes_eq_canon _ _ _ (whole256x8_f32 _)
  isplitl [H15]
  · iexists _; iexists _; isplitr
    swap; · iexact H15
    ipureintro; rfl
  isplitl [H16]
  · iexists _; isplitr
    swap; · iexact H16
    ipureintro
    exact View.read_writes_eq_canon _ _ _ (whole16x256_f32 _)
  isplitl [H17]
  · iexists _; iexists _; isplitr
    swap; · iexact H17
    ipureintro; rfl
  isplitl [H18]
  · iexists _; isplitr
    swap; · iexact H18
    ipureintro
    exact View.read_writes_eq_canon _ _ _ (whole256x128_f32 _)
  isplitl [H19]
  · iexists _; isplitr
    swap; · iexact H19
    ipureintro
    exact View.read_writes_eq_canon _ _ _ (whole256x128_f32 _)
  isplitl [H20]
  · iexists _; isplitr
    swap; · iexact H20
    ipureintro
    exact View.read_writes_eq_canon _ _ _ (whole256x128_bf16 _)
  isplitl [H21]
  · iexists _; isplitr
    swap; · iexact H21
    ipureintro
    exact View.read_writes_eq_canon _ _ _ (whole256x128_bf16 _)
  isplitl [H22]
  · iexists _; isplitr
    swap; · iexact H22
    ipureintro
    exact View.read_writes_eq_canon _ _ _ (whole256x512_bf16 _)
  isplitl [H23]
  · iexists _; isplitr
    swap; · iexact H23
    ipureintro
    exact View.read_writes_eq_canon _ _ _ (whole256x512_f32 _)
  isplitl [H24]
  · iexists _; isplitr
    swap; · iexact H24
    ipureintro
    exact View.read_writes_eq_canon _ _ _ (whole256x512_bf16 _)
  isplitl [H25]
  · iexists _; isplitr
    swap; · iexact H25
    ipureintro
    exact View.read_writes_eq_canon _ _ _ (whole256x64_f32 _)
  isplitl [H26]
  · iexists _; iexists _; isplitr
    swap; · iexact H26
    ipureintro; rfl
  iexists _; iexists _; isplitr
  swap; · iexact HS
  ipureintro; rfl

/-! ## The pipeline's data -/

/-- The windows whose contents the run does not name. -/
def unsaid : Fin cfg0.W → Bool := fun w => w.val == 9 || w.val == 15 || w.val == 17 || w.val == 26

/-- What every buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Dat.unnamed (cfg := cfg0) ⟨9, by decide⟩ t
    | ⟨10, _⟩ => out0_10 (iblk m c 0 t)
    | ⟨11, _⟩ => out0_11 (iblk m c 0 t)
    | ⟨12, _⟩ => out0_12 (iblk m c 0 t)
    | ⟨13, _⟩ => out0_13 (iblk m c 0 t)
    | ⟨14, _⟩ => out0_14 (iblk m c 0 t) (iblk m c 4 t)
    | ⟨15, _⟩ => Dat.unnamed (cfg := cfg0) ⟨15, by decide⟩ t
    | ⟨16, _⟩ => out0_16 (iblk m c 1 t) (iblk m c 2 t) (iblk m c 3 t)
    | ⟨17, _⟩ => Dat.unnamed (cfg := cfg0) ⟨17, by decide⟩ t
    | ⟨18, _⟩ => out0_18 (iblk m c 0 t)
    | ⟨19, _⟩ => out0_19 (iblk m c 0 t)
    | ⟨20, _⟩ => out0_20 (iblk m c 0 t)
    | ⟨21, _⟩ => out0_21 (iblk m c 0 t)
    | ⟨22, _⟩ => out0_22 (iblk m c 0 t) (iblk m c 5 t)
    | ⟨23, _⟩ => out0_23 (iblk m c 0 t) (iblk m c 6 t)
    | ⟨24, _⟩ => out0_24 (iblk m c 0 t) (iblk m c 6 t)
    | ⟨25, _⟩ => out0_25 (iblk m c 0 t) (iblk m c 7 t) (iblk m c 8 t)
    | ⟨26, _⟩ => Dat.unnamed (cfg := cfg0) ⟨26, by decide⟩ t
    | ⟨n + 27, h⟩ => absurd (show n + 27 < 27 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_10 (c : Dev nD) (t : Fin cfg0.N) : (dats m 0 c).after 10 t = out0_10 (iblk m c 0 t) := by dsimp only [dats]
theorem after0_11 (c : Dev nD) (t : Fin cfg0.N) : (dats m 0 c).after 11 t = out0_11 (iblk m c 0 t) := by dsimp only [dats]
theorem after0_12 (c : Dev nD) (t : Fin cfg0.N) : (dats m 0 c).after 12 t = out0_12 (iblk m c 0 t) := by dsimp only [dats]
theorem after0_13 (c : Dev nD) (t : Fin cfg0.N) : (dats m 0 c).after 13 t = out0_13 (iblk m c 0 t) := by dsimp only [dats]
theorem after0_14 (c : Dev nD) (t : Fin cfg0.N) : (dats m 0 c).after 14 t = out0_14 (iblk m c 0 t) (iblk m c 4 t) := by dsimp only [dats]
theorem after0_16 (c : Dev nD) (t : Fin cfg0.N) : (dats m 0 c).after 16 t = out0_16 (iblk m c 1 t) (iblk m c 2 t) (iblk m c 3 t) := by dsimp only [dats]
theorem after0_18 (c : Dev nD) (t : Fin cfg0.N) : (dats m 0 c).after 18 t = out0_18 (iblk m c 0 t) := by dsimp only [dats]
theorem after0_19 (c : Dev nD) (t : Fin cfg0.N) : (dats m 0 c).after 19 t = out0_19 (iblk m c 0 t) := by dsimp only [dats]
theorem after0_20 (c : Dev nD) (t : Fin cfg0.N) : (dats m 0 c).after 20 t = out0_20 (iblk m c 0 t) := by dsimp only [dats]
theorem after0_21 (c : Dev nD) (t : Fin cfg0.N) : (dats m 0 c).after 21 t = out0_21 (iblk m c 0 t) := by dsimp only [dats]
theorem after0_22 (c : Dev nD) (t : Fin cfg0.N) : (dats m 0 c).after 22 t = out0_22 (iblk m c 0 t) (iblk m c 5 t) := by dsimp only [dats]
theorem after0_23 (c : Dev nD) (t : Fin cfg0.N) : (dats m 0 c).after 23 t = out0_23 (iblk m c 0 t) (iblk m c 6 t) := by dsimp only [dats]
theorem after0_24 (c : Dev nD) (t : Fin cfg0.N) : (dats m 0 c).after 24 t = out0_24 (iblk m c 0 t) (iblk m c 6 t) := by dsimp only [dats]
theorem after0_25 (c : Dev nD) (t : Fin cfg0.N) : (dats m 0 c).after 25 t = out0_25 (iblk m c 0 t) (iblk m c 7 t) (iblk m c 8 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at a grid point -/

/-- What the body is called with, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare d)
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare d)
    ∗ (∃ d, owns (c : Thread nD τ) (st0_16 t) fullShare ((dats m 0 c).before 16 t d))
    ∗ (∃ d, owns (c : Thread nD τ) (st0_17 t) fullShare d)
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare d))

/-- and what it returns. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ d, owns (c : Thread nD τ) (st0_9 t) fullShare d)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (∃ d, owns (c : Thread nD τ) (st0_15 t) fullShare d)
    ∗ owns (c : Thread nD τ) (st0_16 t) fullShare ((dats m 0 c).after 16 t)
    ∗ (∃ d, owns (c : Thread nD τ) (st0_17 t) fullShare d)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ (∃ d, owns (c : Thread nD τ) (st0_26 t) fullShare d))

/-- The invariant holds the scratch buffer at some contents. -/
theorem inv_eq (c : Dev nD) : (Pipeline.ΦA spec0 c : sProp 𝕄)
    = iprop(iprop((∃ d, owns (c : Thread nD τ) (Memref.whole cc0_scratch0 : Memref sig .tc .vmem S16x1 .f32) fullShare d)) ∗ (∃ r, prngReg c r)) := by
  unfold Pipeline.ΦA; rw [scopedRest0_eq]; simp only [owns_whole]; try rfl

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq,
    after0_0, after0_1, after0_2, after0_3, after0_4, after0_5, after0_6, after0_7, after0_8, after0_10, after0_11, after0_12, after0_13, after0_14, after0_16, after0_18, after0_19, after0_20, after0_21, after0_22, after0_23, after0_24, after0_25]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [HS]; · iexact HS
  iintro ⟨H0, H1, H2, H3, H4, H5, H6, H7, H8, H9, H10, H11, H12, H13, H14, H15, H16, H17, H18, H19, H20, H21, H22, H23, H24, H25, H26, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ unsaid := fun t => by
  rw [bigSep_W0, bigSep_W0, body_row]
  exact triple_restated (sound_body m c t) rfl .rfl fun _ => .rfl

/-! ## The run and the frame -/

set_option backward.isDefEq.respectTransparency.types false in
set_option maxHeartbeats 1600000 in
/-- Every execution ends, with every array but the four as the data says and with every semaphore at zero. -/
theorem run_quiet : θ_run defs (onTc (τ := τ) (main (F := F))) (s₀ m ρ)
    (fun r => RDat.FramePost (cfgs 0) (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An argument's array ends as it began. -/
theorem kept (r : PUnit × MemSt nD τ sig (Elt F)) (h : RDat.FramePost (cfgs 0) (fun c => (dats m 0 c).toRForget unsaid) (V m) r)
    (c : Dev nD) (w : Fin cfg0.W) (hw : (cfg0.win w).isOut = false) :
    r.2.mem ((cfg0.spec w).arr.view.loc (c.tc : Thread nD τ)) = V m c (Pipeline.arrRef spec0 w) :=
  (h.arr_in c w hw).trans (A_eq m c w)

/-- The arguments' arrays end as they began, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨kept m r h.1 c 0 rfl, kept m r h.1 c 1 rfl, kept m r h.1 c 2 rfl, kept m r h.1 c 3 rfl, kept m r h.1 c 4 rfl, kept m r h.1 c 5 rfl, kept m r h.1 c 6 rfl, kept m r h.1 c 7 rfl, kept m r h.1 c 8 rfl⟩, h.2⟩) (run_quiet m ρ)

/-- The run, with the contents of every named output array. -/
theorem run_named : θ_run defs (onTc (τ := τ) (main (F := F))) (s₀ m ρ)
    (fun r => ∀ c : Dev nD, ∀ w : Fin cfg0.W, unsaid w = false →
      r.2.mem ((cfg0.spec w).arr.view.loc (c.tc : Thread nD τ)) = (dats m 0 c).arrAt w cfg0.N) :=
  (θ_run defs _ _).mono (fun r h c w hw => ((dats m 0 c).toRForget_arrAt_iff hw _ _).mp ((h.1 c).1 w)) (run_quiet m ρ)

end Cert.PostIdeal.Split

end
-- ==== Proof.PostRows.lean ====
/-
  The splitting of the joint projection: every grid point makes whole rows of every result from the same rows of
  the projection, so the kernel's results are those of the reference entry by entry.
-/
module

public import proofs.«01_k».proof.Defs
public import proofs.«01_k».proof.Proof.PostIdealFrame
public import proofs.«01_k».proof.Proof.Gen.PostReferenceIdeal.Run
public import Idealize.ShloMosaic.Lib.Pipeline.ValueKit
public import Idealize.ShloMosaic.Lib.Pipeline.ReadBack
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen Cert.PostIdeal.Split

variable (m : (ℓ : Loc nD τ sig) → Buf (Elt Ideal) ℓ)

/-- Where each window that is read or named stands at every grid point. -/
theorem placement : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_16.index t = ![0, t.val]
    ∧ win0_18.index t = ![t.val, 0] ∧ win0_19.index t = ![t.val, 0] ∧ win0_20.index t = ![t.val, 0] ∧ win0_21.index t = ![t.val, 0]
    ∧ win0_22.index t = ![t.val, 0] ∧ win0_23.index t = ![t.val, 0] ∧ win0_24.index t = ![t.val, 0] ∧ win0_25.index t = ![t.val, 0] :=
  (by decide +kernel : ∀ t : Fin grid0.N, _)

/-- The type of the joint projection. -/
abbrev Joint := FVec Ideal Cert.PostReferenceIdeal.S8704x2688 .f32

/-- A row of results of 128 columns. -/
abbrev Keys := FVec Ideal Cert.PostReferenceIdeal.S8704x128 .f32

/-- A row of results of 512 columns. -/
abbrev Latent := FVec Ideal Cert.PostReferenceIdeal.S8704x512 .f32

/-- The keys of the forgetting attention. -/
abbrev foxKeys (u : Joint) : Keys := extractStridedSlice Cert.PostReferenceIdeal.S8704x128 ![0, 512] u Cert.PostReferenceIdeal.Gen.slices_S8704x2688_S8704x128_0_512

/-- The values of the forgetting attention. -/
abbrev foxValues (u : Joint) : Keys := extractStridedSlice Cert.PostReferenceIdeal.S8704x128 ![0, 640] u Cert.PostReferenceIdeal.Gen.slices_S8704x2688_S8704x128_0_640

/-- The keys of the stick-breaking attention. -/
abbrev sbKeys (u : Joint) : Keys := extractStridedSlice Cert.PostReferenceIdeal.S8704x128 ![0, 1280] u Cert.PostReferenceIdeal.Gen.slices_S8704x2688_S8704x128_0_1280

/-- The values of the stick-breaking attention. -/
abbrev sbValues (u : Joint) : Keys := extractStridedSlice Cert.PostReferenceIdeal.S8704x128 ![0, 1408] u Cert.PostReferenceIdeal.Gen.slices_S8704x2688_S8704x128_0_1408

/-- The latent queries before their norm. -/
abbrev rawQueries (u : Joint) : Latent := extractStridedSlice Cert.PostReferenceIdeal.S8704x512 ![0, 1536] u Cert.PostReferenceIdeal.Gen.slices_S8704x2688_S8704x512_0_1536

/-- The latent keys and values before their norm. -/
abbrev rawLatent (u : Joint) : Latent := extractStridedSlice Cert.PostReferenceIdeal.S8704x512 ![0, 2048] u Cert.PostReferenceIdeal.Gen.slices_S8704x2688_S8704x512_0_2048

/-- Every row over its root mean square, times the gain. -/
abbrev normed (x : Latent) (g : FVec Ideal Cert.PostReferenceIdeal.S1x512 .f32) : Latent :=
  mulf (mulf x (broadcastInDim Cert.PostReferenceIdeal.S8704x512 ![0, 1] Cert.PostReferenceIdeal.Gen.bcast_S8704x1_S8704x512_0_1
      (Host.rsqrt (addf (Host.divf (broadcastInDim Cert.PostReferenceIdeal.S8704x1 ![0] Cert.PostReferenceIdeal.Gen.bcast_S8704_S8704x1_0
            (Host.reduceAdd (mulf x x) (constant Cert.PostReferenceIdeal.S_ .f32 0x00000000#32) Cert.PostReferenceIdeal.Gen.reducesTo_S8704x512_S8704_d1 Cert.PostReferenceIdeal.Gen.h_S_))
          (broadcastInDim Cert.PostReferenceIdeal.S8704x1 ![] Cert.PostReferenceIdeal.Gen.bcast_S_S8704x1 (constant Cert.PostReferenceIdeal.S_ .f32 0x44000000#32)))
        (broadcastInDim Cert.PostReferenceIdeal.S8704x1 ![] Cert.PostReferenceIdeal.Gen.bcast_S_S8704x1 (constant Cert.PostReferenceIdeal.S_ .f32 0x3727C5AC#32))))))
    (broadcastInDim Cert.PostReferenceIdeal.S8704x512 ![0, 1] Cert.PostReferenceIdeal.Gen.bcast_S1x512_S8704x512_0_1 g)

/-- The first half of the rotated key. -/
abbrev rotatedLow (u : Joint) (cs sn : Keys) : FVec Ideal Cert.PostReferenceIdeal.S8704x32 .f32 :=
  addf (mulf (extractStridedSlice Cert.PostReferenceIdeal.S8704x32 ![0, 2560] u Cert.PostReferenceIdeal.Gen.slices_S8704x2688_S8704x32_0_2560)
      (extractStridedSlice Cert.PostReferenceIdeal.S8704x32 ![0, 0] cs Cert.PostReferenceIdeal.Gen.slices_S8704x128_S8704x32_0_0))
    (mulf (extractStridedSlice Cert.PostReferenceIdeal.S8704x32 ![0, 2592] u Cert.PostReferenceIdeal.Gen.slices_S8704x2688_S8704x32_0_2592)
      (extractStridedSlice Cert.PostReferenceIdeal.S8704x32 ![0, 0] sn Cert.PostReferenceIdeal.Gen.slices_S8704x128_S8704x32_0_0))

/-- The second half of the rotated key. -/
abbrev rotatedHigh (u : Joint) (cs sn : Keys) : FVec Ideal Cert.PostReferenceIdeal.S8704x32 .f32 :=
  addf (mulf (extractStridedSlice Cert.PostReferenceIdeal.S8704x32 ![0, 2560] u Cert.PostReferenceIdeal.Gen.slices_S8704x2688_S8704x32_0_2560)
      (extractStridedSlice Cert.PostReferenceIdeal.S8704x32 ![0, 32] sn Cert.PostReferenceIdeal.Gen.slices_S8704x128_S8704x32_0_32))
    (mulf (extractStridedSlice Cert.PostReferenceIdeal.S8704x32 ![0, 2592] u Cert.PostReferenceIdeal.Gen.slices_S8704x2688_S8704x32_0_2592)
      (extractStridedSlice Cert.PostReferenceIdeal.S8704x32 ![0, 32] cs Cert.PostReferenceIdeal.Gen.slices_S8704x128_S8704x32_0_32))

/-- The rotated key. -/
abbrev rotated (u : Joint) (cs sn : Keys) : FVec Ideal Cert.PostReferenceIdeal.S8704x64 .f32 :=
  concatenate Cert.PostReferenceIdeal.S8704x64 1 [⟨Cert.PostReferenceIdeal.S8704x32, rotatedLow u cs sn⟩, ⟨Cert.PostReferenceIdeal.S8704x32, rotatedHigh u cs sn⟩]
    Cert.PostReferenceIdeal.Gen.concatenates_S8704x32_S8704x32_S8704x64_d1

/-- What goes into the gates. -/
abbrev gateInput (u : Joint) (b : FVec Ideal Cert.PostReferenceIdeal.S1x128 .f32) : FVec Ideal Cert.PostReferenceIdeal.S8704x8 .f32 :=
  addf (extractStridedSlice Cert.PostReferenceIdeal.S8704x8 ![0, 2624] u Cert.PostReferenceIdeal.Gen.slices_S8704x2688_S8704x8_0_2624)
    (broadcastInDim Cert.PostReferenceIdeal.S8704x8 ![0, 1] Cert.PostReferenceIdeal.Gen.bcast_S1x8_S8704x8_0_1
      (extractStridedSlice Cert.PostReferenceIdeal.S1x8 ![0, 64] b Cert.PostReferenceIdeal.Gen.slices_S1x128_S1x8_0_64))

/-- What goes into the transposed gates. -/
abbrev gateProduct (x : FVec Ideal Cert.PostReferenceIdeal.S8704x2048 .bf16) (w : FVec Ideal Cert.PostReferenceIdeal.S16x2048 .bf16) (b : FVec Ideal Cert.PostReferenceIdeal.S16x1 .f32) :
    FVec Ideal Cert.PostReferenceIdeal.S16x8704 .f32 :=
  addf (Host.dotGeneral Cert.PostReferenceIdeal.dot_S16x2048_S2048x8704_S16x8704_1_0_0_1_n_n none (extf .f32 w Cert.PostReferenceIdeal.Gen.bitsLt_bf16_f32)
      (transpose Cert.PostReferenceIdeal.S2048x8704 [1, 0] (extf .f32 x Cert.PostReferenceIdeal.Gen.bitsLt_bf16_f32) Cert.PostReferenceIdeal.Gen.transposes_S8704x2048_S2048x8704_1_0))
    (broadcastInDim Cert.PostReferenceIdeal.S16x8704 ![0, 1] Cert.PostReferenceIdeal.Gen.bcast_S16x1_S16x8704_0_1 b)

/-- The result with the keys of the forgetting attention. -/
theorem result10 (c : Dev nD) : (dats m 0 c).arrAt 10 (cfgs 0).N
    = foxKeys (m ((c : Thread nD τ).loc main_arg0)) := by
  refine (dats m 0 c).arrAt_eq_of_covers 10 _ (by decide +kernel) fun t _ y => ?_
  blk_simp
  rw [after0_10]; unfold out0_10; frame_out
  pointwise [foxKeys]
  blk_point [iblk, V, placement t]

/-- The result with the values of the forgetting attention. -/
theorem result11 (c : Dev nD) : (dats m 0 c).arrAt 11 (cfgs 0).N
    = foxValues (m ((c : Thread nD τ).loc main_arg0)) := by
  refine (dats m 0 c).arrAt_eq_of_covers 11 _ (by decide +kernel) fun t _ y => ?_
  blk_simp
  rw [after0_11]; unfold out0_11; frame_out
  pointwise [foxValues]
  blk_point [iblk, V, placement t]

/-- The result with the keys of the forgetting attention, rounded. -/
theorem result12 (c : Dev nD) : (dats m 0 c).arrAt 12 (cfgs 0).N
    = truncf .bf16 (foxKeys (m ((c : Thread nD τ).loc main_arg0))) Cert.PostReferenceIdeal.Gen.bitsLt_bf16_f32 := by
  refine (dats m 0 c).arrAt_eq_of_covers 12 _ (by decide +kernel) fun t _ y => ?_
  blk_simp
  rw [after0_12]; unfold out0_12; frame_out
  pointwise [foxKeys, k0_pay24]
  blk_point [iblk, V, placement t]

/-- The result with the values of the forgetting attention, rounded. -/
theorem result13 (c : Dev nD) : (dats m 0 c).arrAt 13 (cfgs 0).N
    = truncf .bf16 (foxValues (m ((c : Thread nD τ).loc main_arg0))) Cert.PostReferenceIdeal.Gen.bitsLt_bf16_f32 := by
  refine (dats m 0 c).arrAt_eq_of_covers 13 _ (by decide +kernel) fun t _ y => ?_
  blk_simp
  rw [after0_13]; unfold out0_13; frame_out
  pointwise [foxValues, k0_pay25]
  blk_point [iblk, V, placement t]

/-- The result with the keys of the stick-breaking attention. -/
theorem result18 (c : Dev nD) : (dats m 0 c).arrAt 18 (cfgs 0).N
    = sbKeys (m ((c : Thread nD τ).loc main_arg0)) := by
  refine (dats m 0 c).arrAt_eq_of_covers 18 _ (by decide +kernel) fun t _ y => ?_
  blk_simp
  rw [after0_18]; unfold out0_18; frame_out
  pointwise [sbKeys]
  blk_point [iblk, V, placement t]

/-- The result with the values of the stick-breaking attention. -/
theorem result19 (c : Dev nD) : (dats m 0 c).arrAt 19 (cfgs 0).N
    = sbValues (m ((c : Thread nD τ).loc main_arg0)) := by
  refine (dats m 0 c).arrAt_eq_of_covers 19 _ (by decide +kernel) fun t _ y => ?_
  blk_simp
  rw [after0_19]; unfold out0_19; frame_out
  pointwise [sbValues]
  blk_point [iblk, V, placement t]

/-- The result with the keys of the stick-breaking attention, rounded. -/
theorem result20 (c : Dev nD) : (dats m 0 c).arrAt 20 (cfgs 0).N
    = truncf .bf16 (sbKeys (m ((c : Thread nD τ).loc main_arg0))) Cert.PostReferenceIdeal.Gen.bitsLt_bf16_f32 := by
  refine (dats m 0 c).arrAt_eq_of_covers 20 _ (by decide +kernel) fun t _ y => ?_
  blk_simp
  rw [after0_20]; unfold out0_20; frame_out
  pointwise [sbKeys, k0_pay26]
  blk_point [iblk, V, placement t]

/-- The result with the values of the stick-breaking attention, rounded. -/
theorem result21 (c : Dev nD) : (dats m 0 c).arrAt 21 (cfgs 0).N
    = truncf .bf16 (sbValues (m ((c : Thread nD τ).loc main_arg0))) Cert.PostReferenceIdeal.Gen.bitsLt_bf16_f32 := by
  refine (dats m 0 c).arrAt_eq_of_covers 21 _ (by decide +kernel) fun t _ y => ?_
  blk_simp
  rw [after0_21]; unfold out0_21; frame_out
  pointwise [sbValues, k0_pay27]
  blk_point [iblk, V, placement t]

/-- The result with the normed latent queries. -/
theorem result22 (c : Dev nD) : (dats m 0 c).arrAt 22 (cfgs 0).N
    = truncf .bf16 (normed (rawQueries (m ((c : Thread nD τ).loc main_arg0))) (m ((c : Thread nD τ).loc main_arg5))) Cert.PostReferenceIdeal.Gen.bitsLt_bf16_f32 := by
  refine (dats m 0 c).arrAt_eq_of_covers 22 _ (by decide +kernel) fun t _ y => ?_
  blk_simp
  rw [after0_22]; unfold out0_22; frame_out
  pointwise [k0_pay28, normed, rawQueries]
  blk_point [iblk, V, placement t]

/-- The result with the normed latent keys and values. -/
theorem result23 (c : Dev nD) : (dats m 0 c).arrAt 23 (cfgs 0).N
    = normed (rawLatent (m ((c : Thread nD τ).loc main_arg0))) (m ((c : Thread nD τ).loc main_arg6)) := by
  refine (dats m 0 c).arrAt_eq_of_covers 23 _ (by decide +kernel) fun t _ y => ?_
  blk_simp
  rw [after0_23]; unfold out0_23; frame_out
  pointwise [k0_pay30, k0_pay29, normed, rawLatent]
  blk_point [iblk, V, placement t]

/-- The result with the normed latent keys and values, rounded. -/
theorem result24 (c : Dev nD) : (dats m 0 c).arrAt 24 (cfgs 0).N
    = truncf .bf16 (normed (rawLatent (m ((c : Thread nD τ).loc main_arg0))) (m ((c : Thread nD τ).loc main_arg6))) Cert.PostReferenceIdeal.Gen.bitsLt_bf16_f32 := by
  refine (dats m 0 c).arrAt_eq_of_covers 24 _ (by decide +kernel) fun t _ y => ?_
  blk_simp
  rw [after0_24]; unfold out0_24; frame_out
  pointwise [k0_pay31, k0_pay30, k0_pay29, normed, rawLatent]
  blk_point [iblk, V, placement t]

end Cert.PostIdeal.Value

end
-- ==== Proof.PostValue.lean ====
/-
  The splitting of the joint projection, its gates and its rotated key, and the claim that the kernel and the
  reference end with equal results.
-/
module

public import proofs.«01_k».proof.Defs
public import proofs.«01_k».proof.Proof.PostRows
public import proofs.«01_k».proof.Proof.Gen.PostReferenceIdeal.Run
public import Idealize.ShloMosaic.Lib.Pipeline.ValueKit
public import Idealize.ShloMosaic.Lib.Pipeline.ReadBack
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen Cert.PostIdeal.Split

/-- The gate's softening is never minus infinity. -/
theorem soft_ne_bot (x : EReal) : Ideal.log (1 + Ideal.exp (-max x (-x))) ≠ ⊥ := by
  have h : ∀ r : ℝ, Ideal.log (1 + Ideal.exp (r : EReal)) ≠ ⊥ := fun r => by
    have hp : (0 : ℝ) < 1 + Real.exp r := by positivity
    show Ideal.log ((1 : ℝ) + (Real.exp r : ℝ) : EReal) ≠ ⊥
    rw [← EReal.coe_add]
    show (if 1 + Real.exp r ≤ 0 then ⊥ else ((Real.log (1 + Real.exp r) : ℝ) : EReal)) ≠ ⊥
    rw [if_neg (not_le.mpr hp)]
    exact EReal.coe_ne_bot _
  have h0 : Ideal.log (1 + Ideal.exp ⊥) ≠ ⊥ := by
    show Ideal.log ((1 : ℝ) + (0 : ℝ) : EReal) ≠ ⊥
    rw [← EReal.coe_add]
    show (if (1 : ℝ) + 0 ≤ 0 then ⊥ else ((Real.log (1 + 0) : ℝ) : EReal)) ≠ ⊥
    rw [if_neg (by norm_num)]
    exact EReal.coe_ne_bot _
  induction x using EReal.rec with
  | bot => simpa using h0
  | top => simpa using h0
  | coe r =>
    have e : -max (r : EReal) (-(r : EReal)) = ((-max r (-r) : ℝ) : EReal) := by
      rw [EReal.coe_neg, EReal.coe_strictMono.monotone.map_max, EReal.coe_neg]
    rw [e]; exact h _

/-- The two ways to write the logarithm of the logistic function. -/
theorem gate_eq (x : EReal) :
    min x 0 - Ideal.log (1 + Ideal.exp (0 - max x (-x)))
      = -(max (-x) 0 + Ideal.log1p (Ideal.exp (-max (-x) (-(-x))))) := by
  have hb := soft_ne_bot x
  have ha : max (-x) 0 ≠ ⊥ := ne_of_gt (lt_of_lt_of_le EReal.bot_lt_zero (le_max_right _ _))
  unfold Ideal.log1p
  rw [neg_neg, max_comm (-x) x, zero_sub, EReal.neg_add (Or.inl ha) (Or.inr hb)]
  congr 1
  rw [← EReal.min_neg_neg, neg_neg, neg_zero]

/-- The logarithm of the logistic function of every entry, by the softening of its negative. -/
def logGate {s : Shape} (h : Cert.PostReferenceIdeal.S_.BroadcastsInDim s ![]) (x : FVec Ideal s .f32) : FVec Ideal s .f32 :=
  Host.negf (select (cmpf .une (subf (Host.negf x) (broadcastInDim s ![] h (constant Cert.PostReferenceIdeal.S_ .f32 0x00000000#32)))
      (subf (Host.negf x) (broadcastInDim s ![] h (constant Cert.PostReferenceIdeal.S_ .f32 0x00000000#32))))
    (addf (Host.negf x) (broadcastInDim s ![] h (constant Cert.PostReferenceIdeal.S_ .f32 0x00000000#32)))
    (addf (maximumf (Host.negf x) (broadcastInDim s ![] h (constant Cert.PostReferenceIdeal.S_ .f32 0x00000000#32)))
      (Host.log1p (Host.exp (Host.negf (Host.absf (subf (Host.negf x)
        (broadcastInDim s ![] h (constant Cert.PostReferenceIdeal.S_ .f32 0x00000000#32)))))))))

/-- The logarithm of the logistic function at one number, as the kernel writes it. -/
def lsig (x : EReal) : EReal := min x 0 - Ideal.log (1 + Ideal.exp (0 - max x (-x)))

/-- One entry of the reference's logarithm. -/
theorem logGate_apply {s : Shape} (h : Cert.PostReferenceIdeal.S_.BroadcastsInDim s ![]) (x : FVec Ideal s .f32) (j : s.Idx) :
    logGate h x j = lsig (x j) := by
  pointwise [logGate]
  rw [if_neg (fun h => h rfl)]
  exact (gate_eq (x j)).symm

/-- One entry of the kernel's gates. -/
theorem gates_apply (a : Vec Ideal S256x128 .f32) (b : Vec Ideal S1x128 .f32) (y : S256x8.Idx) (h : 64 + (y 1).val < 128) :
    k0_pay37 (k0_pay35 a b) (k0_pay36 a b) y = lsig (a (ix2 (y 0) ⟨64 + (y 1).val, h⟩) + b (ix2 0 ⟨64 + (y 1).val, h⟩)) := by
  have hy : (y 1).val < 8 := (y 1).isLt
  have e : (⟨((y 1).val + 128 - 64) % 128, Nat.mod_lt _ (by decide)⟩ : Fin 128) = ⟨64 + (y 1).val, h⟩ := Fin.ext (by
    show ((y 1).val + 128 - 64) % 128 = 64 + (y 1).val
    omega)
  pointwise [k0_pay37, k0_pay36, k0_pay35]
  rw [e]
  rfl

/-- One entry of the kernel's transposed gates. -/
theorem gatesT_apply (w : Vec Ideal S16x2048 .bf16) (x : Vec Ideal S256x2048 .bf16) (b : Vec Ideal S16x1 .f32) (y : S16x256.Idx) :
    k0_pay38 w x b y = lsig (∑ k, w (ix2 (y 0) k) * x (ix2 (y 1) k) + b (ix2 (y 0) 0)) := by
  pointwise [k0_pay38]
  rfl

/-- The choice of the lane to turn to, in words and in numbers. -/
theorem lane_lt : ∀ n < 64, IntOp.cmpi CmpIPredicate.slt (BitVec.ofNat 32 n) 32#32 = if n < 32 then 1#1 else 0#1 := by
  decide +kernel

/-- One entry of the kernel's rotated key, in its first half. -/
theorem turn_low (a b d : Vec Ideal S256x128 .f32) (y : S256x64.Idx) (h : (y 1).val < 32) :
    k0_pay33 (iota .tc S256x128 32 [1] iota_S256x128_d1_w32) a b d y
      = a (ix2 (y 0) ⟨(y 1).val, by omega⟩) * b (ix2 (y 0) ⟨(y 1).val, by omega⟩)
        + a (ix2 (y 0) ⟨32 + (y 1).val, by omega⟩) * d (ix2 (y 0) ⟨(y 1).val, by omega⟩) := by
  have e : (⟨((y 1).val + 128 - 96) % 128, Nat.mod_lt _ (by decide)⟩ : Fin 128) = ⟨32 + (y 1).val, by omega⟩ := Fin.ext (by
    show ((y 1).val + 128 - 96) % 128 = 32 + (y 1).val
    omega)
  pointwise [k0_pay33, k0_pay32]
  rw [lane_lt _ (by omega), if_pos h, show ∀ p q : EReal, Scalar.select 1#1 p q = p from fun _ _ => rfl, e]

/-- One entry of the kernel's rotated key, in its second half. -/
theorem turn_high (a b d : Vec Ideal S256x128 .f32) (y : S256x64.Idx) (hy : (y 1).val < 64) (h : ¬ (y 1).val < 32) :
    k0_pay33 (iota .tc S256x128 32 [1] iota_S256x128_d1_w32) a b d y
      = a (ix2 (y 0) ⟨(y 1).val, by omega⟩) * b (ix2 (y 0) ⟨(y 1).val, by omega⟩)
        + a (ix2 (y 0) ⟨(y 1).val - 32, by omega⟩) * d (ix2 (y 0) ⟨(y 1).val, by omega⟩) := by
  have e : (⟨((y 1).val + 128 - 32) % 128, Nat.mod_lt _ (by decide)⟩ : Fin 128) = ⟨(y 1).val - 32, by omega⟩ := Fin.ext (by
    show ((y 1).val + 128 - 32) % 128 = (y 1).val - 32
    omega)
  pointwise [k0_pay33, k0_pay32]
  rw [lane_lt _ hy, if_neg h, show ∀ p q : EReal, Scalar.select 0#1 p q = q from fun _ _ => rfl, e]

/-- One entry of the reference's rotated key, in its first half. -/
theorem rotated_low (u : Joint) (cs sn : Keys) (j : Cert.PostReferenceIdeal.S8704x64.Idx) (h : (j 1).val < 32) :
    rotated u cs sn j = u (ix2 (j 0) ⟨2560 + (j 1).val, by omega⟩) * cs (ix2 (j 0) ⟨(j 1).val, by omega⟩)
      + u (ix2 (j 0) ⟨2592 + (j 1).val, by omega⟩) * sn (ix2 (j 0) ⟨(j 1).val, by omega⟩) := by
  pointwise [rotated, rotatedLow, rotatedHigh]
  rw [dif_pos h]

/-- One entry of the reference's rotated key, in its second half. -/
theorem rotated_high (u : Joint) (cs sn : Keys) (j : Cert.PostReferenceIdeal.S8704x64.Idx) (hj : (j 1).val < 64) (h : ¬ (j 1).val < 32) :
    rotated u cs sn j = u (ix2 (j 0) ⟨2560 + (j 1).val, by omega⟩) * cs (ix2 (j 0) ⟨(j 1).val, by omega⟩)
      + u (ix2 (j 0) ⟨2560 + ((j 1).val - 32), by omega⟩) * sn (ix2 (j 0) ⟨(j 1).val, by omega⟩) := by
  have e : (⟨2592 + ((j 1).val - 32), by omega⟩ : Fin 2688) = ⟨2560 + (j 1).val, by omega⟩ := Fin.ext (by
    show 2592 + ((j 1).val - 32) = 2560 + (j 1).val
    omega)
  have e' : (⟨32 + ((j 1).val - 32), by omega⟩ : Fin 128) = ⟨(j 1).val, by omega⟩ := Fin.ext (by
    show 32 + ((j 1).val - 32) = (j 1).val
    omega)
  pointwise [rotated, rotatedLow, rotatedHigh]
  rw [dif_neg h, e, e', add_comm]

variable (m : (ℓ : Loc nD τ sig) → Buf (Elt Ideal) ℓ)

/-- The result with the gates. -/
theorem result14 (c : Dev nD) : (dats m 0 c).arrAt 14 (cfgs 0).N = logGate Cert.PostReferenceIdeal.Gen.bcast_S_S8704x8 (gateInput (m ((c : Thread nD τ).loc main_arg0)) (m ((c : Thread nD τ).loc main_arg4))) := by
  refine (dats m 0 c).arrAt_eq_of_covers 14 _ (by decide +kernel) fun t _ y => ?_
  blk_simp
  rw [after0_14]; unfold out0_14; frame_out
  have hy : (y 1).val < 8 := (y 1).isLt
  rw [logGate_apply]
  refine (gates_apply _ _ y (by omega)).trans (congrArg lsig ?_)
  pointwise [gateInput]
  blk_point [iblk, V, placement t]

/-- The result with the transposed gates. -/
theorem result16 (c : Dev nD) :
    (dats m 0 c).arrAt 16 (cfgs 0).N = logGate Cert.PostReferenceIdeal.Gen.bcast_S_S16x8704 (gateProduct (m ((c : Thread nD τ).loc main_arg1)) (m ((c : Thread nD τ).loc main_arg2)) (m ((c : Thread nD τ).loc main_arg3))) := by
  refine (dats m 0 c).arrAt_eq_of_covers 16 _ (by decide +kernel) fun t _ y => ?_
  blk_simp
  rw [after0_16]; unfold out0_16; frame_out
  rw [logGate_apply]
  refine (gatesT_apply _ _ _ y).trans (congrArg lsig ?_)
  pointwise [gateProduct]
  blk_point [iblk, V, placement t]

/-- A block keeps the columns. -/
theorem column (t : Fin cfg0.N) (y : S256x64.Idx) : (((cfg0.win 25).blk t).view.emb y 1).val = (y 1).val := by
  blk_simp
  blk_point [placement t]

/-- The result with the rotated key. -/
theorem result25 (c : Dev nD) : (dats m 0 c).arrAt 25 (cfgs 0).N = rotated (m ((c : Thread nD τ).loc main_arg0)) (m ((c : Thread nD τ).loc main_arg7)) (m ((c : Thread nD τ).loc main_arg8)) := by
  refine (dats m 0 c).arrAt_eq_of_covers 25 _ (by decide +kernel) fun t _ y => ?_
  have hc := column t y
  blk_simp
  rw [after0_25]; unfold out0_25; frame_out
  have hy : (y 1).val < 64 := (y 1).isLt
  by_cases h : (y 1).val < 32
  · refine (turn_low _ _ _ y h).trans (Eq.trans ?_ (rotated_low _ _ _ _ (lt_of_eq_of_lt hc h)).symm)
    pointwise []
    blk_point [iblk, V, placement t]
  · refine (turn_high _ _ _ y hy h).trans (Eq.trans ?_
      (rotated_high _ _ _ _ (lt_of_eq_of_lt hc hy) (fun h' => h (lt_of_eq_of_lt hc.symm h'))).symm)
    pointwise []
    blk_point [iblk, V, placement t]

/-- The run with the named results and the arguments. -/
theorem run_results (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_1) = (dats m 0 c).arrAt 10 (cfgs 0).N
      ∧ r.2.mem ((c.tc : Thread nD τ).loc main_v0_2) = (dats m 0 c).arrAt 11 (cfgs 0).N
      ∧ r.2.mem ((c.tc : Thread nD τ).loc main_v0_5) = (dats m 0 c).arrAt 14 (cfgs 0).N
      ∧ r.2.mem ((c.tc : Thread nD τ).loc main_v0_9) = (dats m 0 c).arrAt 18 (cfgs 0).N
      ∧ r.2.mem ((c.tc : Thread nD τ).loc main_v0_10) = (dats m 0 c).arrAt 19 (cfgs 0).N
      ∧ r.2.mem ((c.tc : Thread nD τ).loc main_v0_14) = (dats m 0 c).arrAt 23 (cfgs 0).N
      ∧ r.2.mem ((c.tc : Thread nD τ).loc main_v0_16) = (dats m 0 c).arrAt 25 (cfgs 0).N
      ∧ r.2.mem ((c.tc : Thread nD τ).loc main_v0_3) = (dats m 0 c).arrAt 12 (cfgs 0).N
      ∧ r.2.mem ((c.tc : Thread nD τ).loc main_v0_4) = (dats m 0 c).arrAt 13 (cfgs 0).N
      ∧ r.2.mem ((c.tc : Thread nD τ).loc main_v0_11) = (dats m 0 c).arrAt 20 (cfgs 0).N
      ∧ r.2.mem ((c.tc : Thread nD τ).loc main_v0_12) = (dats m 0 c).arrAt 21 (cfgs 0).N
      ∧ r.2.mem ((c.tc : Thread nD τ).loc main_v0_13) = (dats m 0 c).arrAt 22 (cfgs 0).N
      ∧ r.2.mem ((c.tc : Thread nD τ).loc main_v0_15) = (dats m 0 c).arrAt 24 (cfgs 0).N
      ∧ r.2.mem ((c.tc : Thread nD τ).loc main_v0_7) = (dats m 0 c).arrAt 16 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h.1 c 10 rfl, h.1 c 11 rfl, h.1 c 14 rfl, h.1 c 18 rfl, h.1 c 19 rfl, h.1 c 23 rfl, h.1 c 25 rfl, h.1 c 12 rfl, h.1 c 13 rfl, h.1 c 20 rfl, h.1 c 21 rfl, h.1 c 22 rfl, h.1 c 24 rfl, h.1 c 16 rfl, h.2.1 c⟩)
    (θ_run_and (run_named m ρ) (Cert.PostIdeal.Split.frame m ρ))

end Cert.PostIdeal.Value

namespace Cert.Proof

set_option maxHeartbeats 3200000 in
/-- The kernel and the reference end with equal results. -/
theorem post_value : Cert.algebraic_PostIdeal_PostReferenceIdeal (hPostIdeal := Cert.PostIdeal.Gen.facts)
    (hPostReferenceIdeal := Cert.PostReferenceIdeal.Gen.facts) := by
  pair_intro
  · run_from Cert.PostIdeal.Value.run_results m g
  · run_from Cert.PostReferenceIdeal.Value.run m' g'
    · exact (Cert.PostIdeal.Value.result10 m c).symm
    · exact (Cert.PostIdeal.Value.result11 m c).symm
    · exact (Cert.PostIdeal.Value.result14 m c).symm
    · exact (Cert.PostIdeal.Value.result18 m c).symm
    · exact (Cert.PostIdeal.Value.result19 m c).symm
    · exact (Cert.PostIdeal.Value.result23 m c).symm
    · exact (congrArg₂ (fun a b => Cert.PostIdeal.Value.rotated (m ((c.tc : Thread Cert.PostIdeal.nD Cert.PostIdeal.τ).loc Cert.PostIdeal.main_arg0)) a b)
        (hagree c).2.2.2.2.2.2.2.1 (hagree c).2.2.2.2.2.2.2.2).trans (Cert.PostIdeal.Value.result25 m c).symm
    · exact (Cert.PostIdeal.Value.result12 m c).symm
    · exact (Cert.PostIdeal.Value.result13 m c).symm
    · exact (Cert.PostIdeal.Value.result20 m c).symm
    · exact (Cert.PostIdeal.Value.result21 m c).symm
    · exact (Cert.PostIdeal.Value.result22 m c).symm
    · exact (Cert.PostIdeal.Value.result24 m c).symm
    · exact (Cert.PostIdeal.Value.result16 m c).symm

end Cert.Proof

end
-- ==== Proof.Softmax.lean ====
/-
  The arithmetic of the online softmax. A row of attention has real scores `s j` and real values `v j`. The kernel
  goes over the keys chunk by chunk and keeps a shift `M`, the sum of `exp (s j - M)` and the sum of
  `exp (s j - M) * v j` over the keys seen; it rescales both sums when the shift moves. The quotient of the two sums
  does not depend on the shift, so it is the softmax average that the reference takes with its own shift.
-/
module

public import Idealize.ShloMosaic.PureOps.Ideal
public import Mathlib.Algebra.BigOperators.Intervals

@[expose] public section

noncomputable section

open Idealize.ShloMosaic

namespace Cert.Softmax

/-- A sum of real numbers in the extended reals is their real sum. -/
theorem coe_sum {ι : Type} (K : Finset ι) (f : ι → ℝ) : ((∑ j ∈ K, f j : ℝ) : EReal) = ∑ j ∈ K, (f j : EReal) := by
  classical
  induction K using Finset.induction_on with
  | empty => simp
  | insert a K ha ih => rw [Finset.sum_insert ha, Finset.sum_insert ha, EReal.coe_add, ih]

/-- The maximum of finitely many scores, none of them `⊤` and one of them real, is real. -/
theorem fold_max_real {ι : Type} [Fintype ι] (f : ι → EReal) (ht : ∀ x, f x ≠ ⊤) (a : ι) (ha : f a ≠ ⊥) :
    ∃ M : ℝ, Finset.fold max (⊥ : EReal) f Finset.univ = M := by
  have e : Finset.fold max (⊥ : EReal) f Finset.univ = Finset.univ.sup f := rfl
  have h1 : Finset.univ.sup f ≠ ⊤ := ((Finset.sup_lt_iff (bot_lt_top)).2 fun x _ => lt_top_iff_ne_top.2 (ht x)).ne
  have h2 : Finset.univ.sup f ≠ ⊥ := fun h => ha (le_bot_iff.1 (h ▸ Finset.le_sup (f := f) (Finset.mem_univ a)))
  exact ⟨(Finset.univ.sup f).toReal, by rw [e, EReal.coe_toReal h1 h2]⟩

/-- The weighted sum over the keys below `e` and the keys from `lo` up to `hi`, at the shift `M`. -/
def mass (s v : ℕ → ℝ) (lo hi e : ℕ) (M : ℝ) : ℝ :=
  ∑ j ∈ Finset.range e, Real.exp (s j - M) * v j + ∑ j ∈ Finset.Ico lo hi, Real.exp (s j - M) * v j

/-- A change of the shift multiplies the weighted sum. -/
theorem mass_shift (s v : ℕ → ℝ) (lo hi e : ℕ) (M M' : ℝ) :
    Real.exp (M - M') * mass s v lo hi e M = mass s v lo hi e M' := by
  have h : ∀ j, Real.exp (M - M') * (Real.exp (s j - M) * v j) = Real.exp (s j - M') * v j := fun j => by
    rw [← mul_assoc, ← Real.exp_add]; congr 2; ring
  rw [mass, mul_add, Finset.mul_sum, Finset.mul_sum, mass]
  exact congrArg₂ (· + ·) (Finset.sum_congr rfl fun j _ => h j) (Finset.sum_congr rfl fun j _ => h j)

/-- One chunk of `n` unmasked keys: the rescaled sum plus the chunk's. -/
theorem mass_step (s v : ℕ → ℝ) (lo hi e n : ℕ) (M M' : ℝ) :
    Ideal.exp ((M : EReal) - (M' : EReal)) * ((mass s v lo hi e M : ℝ) : EReal)
      + ∑ x : Fin n, Ideal.exp (((s (e + x.val) : ℝ) : EReal) - (M' : EReal)) * ((v (e + x.val) : ℝ) : EReal)
      = ((mass s v lo hi (e + n) M' : ℝ) : EReal) := by
  have h : ∀ x : Fin n, Ideal.exp (((s (e + x.val) : ℝ) : EReal) - (M' : EReal)) * ((v (e + x.val) : ℝ) : EReal)
      = ((Real.exp (s (e + x.val) - M') * v (e + x.val) : ℝ) : EReal) := fun x => by
    rw [← EReal.coe_sub, Ideal.exp_coe, ← EReal.coe_mul]
  rw [Finset.sum_congr rfl fun x _ => h x, ← coe_sum, ← EReal.coe_sub, Ideal.exp_coe, ← EReal.coe_mul, ← EReal.coe_add,
    mass_shift, mass, mass, Finset.sum_range_add, Fin.sum_univ_eq_sum_range (fun x => Real.exp (s (e + x) - M') * v (e + x))]
  congr 1; ring

/-- The same for the sum of the weights alone. -/
theorem mass_step_one (s : ℕ → ℝ) (lo hi e n : ℕ) (M M' : ℝ) :
    Ideal.exp ((M : EReal) - (M' : EReal)) * ((mass s 1 lo hi e M : ℝ) : EReal)
      + ∑ x : Fin n, Ideal.exp (((s (e + x.val) : ℝ) : EReal) - (M' : EReal))
      = ((mass s 1 lo hi (e + n) M' : ℝ) : EReal) := by
  have h := mass_step s 1 lo hi e n M M'
  simpa using h

/-- The first chunk, `n` keys from `lo` of which those below `hi` are seen and the others are masked. -/
theorem mass_start (s v : ℕ → ℝ) (lo hi n : ℕ) (h1 : lo ≤ hi) (h2 : hi ≤ lo + n) (M : ℝ) (f : Fin n → EReal)
    (hf : ∀ x : Fin n, f x = if lo + x.val < hi then ((s (lo + x.val) : ℝ) : EReal) else ⊥) :
    ∑ x : Fin n, Ideal.exp (f x - (M : EReal)) * ((v (lo + x.val) : ℝ) : EReal) = ((mass s v lo hi 0 M : ℝ) : EReal) := by
  have h : ∀ x : Fin n, Ideal.exp (f x - (M : EReal)) * ((v (lo + x.val) : ℝ) : EReal)
      = (((fun x : ℕ => if x < hi - lo then Real.exp (s (lo + x) - M) * v (lo + x) else 0) x.val : ℝ) : EReal) := fun x => by
    rw [hf]
    by_cases hx : lo + x.val < hi
    · rw [if_pos hx, ← EReal.coe_sub, Ideal.exp_coe, ← EReal.coe_mul]
      simp only [show x.val < hi - lo by omega, if_true]
    · rw [if_neg hx]
      simp only [show ¬ x.val < hi - lo by omega, if_false, EReal.bot_sub, Ideal.exp_bot, zero_mul, EReal.coe_zero]
  rw [Finset.sum_congr rfl fun x _ => h x, ← coe_sum,
    Fin.sum_univ_eq_sum_range (fun x : ℕ => if x < hi - lo then Real.exp (s (lo + x) - M) * v (lo + x) else 0) n, mass, Finset.range_zero, Finset.sum_empty,
    zero_add, Finset.sum_Ico_eq_sum_range, ← Finset.sum_filter]
  congr 2
  ext x
  simp only [Finset.mem_filter, Finset.mem_range]
  omega

/-- The same for the sum of the weights alone. -/
theorem mass_start_one (s : ℕ → ℝ) (lo hi n : ℕ) (h1 : lo ≤ hi) (h2 : hi ≤ lo + n) (M : ℝ) (f : Fin n → EReal)
    (hf : ∀ x : Fin n, f x = if lo + x.val < hi then ((s (lo + x.val) : ℝ) : EReal) else ⊥) :
    ∑ x : Fin n, Ideal.exp (f x - (M : EReal)) = ((mass s 1 lo hi 0 M : ℝ) : EReal) := by
  have h := mass_start s 1 lo hi n h1 h2 M f hf
  simpa using h

/-- The softmax average of the values over the keys below `hi`. -/
def average (s v : ℕ → ℝ) (hi : ℕ) : ℝ :=
  (∑ j ∈ Finset.range hi, Real.exp (s j) * v j) / ∑ j ∈ Finset.range hi, Real.exp (s j)

/-- All keys below `hi`: the chunks below `lo` and the first chunk's keys. -/
theorem mass_all (s v : ℕ → ℝ) (lo hi : ℕ) (h : lo ≤ hi) (M : ℝ) :
    mass s v lo hi lo M = Real.exp (-M) * ∑ j ∈ Finset.range hi, Real.exp (s j) * v j := by
  rw [mass, Finset.sum_range_add_sum_Ico _ h, Finset.mul_sum]
  refine Finset.sum_congr rfl fun j _ => ?_
  rw [← mul_assoc, ← Real.exp_add]; congr 2; ring

theorem weights_pos (s : ℕ → ℝ) (hi : ℕ) (h : 0 < hi) : 0 < ∑ j ∈ Finset.range hi, Real.exp (s j) :=
  Finset.sum_pos (fun _ _ => Real.exp_pos _) ⟨0, Finset.mem_range.2 h⟩

/-- The quotient of the two sums is the softmax average, whatever the shift. -/
theorem quotient (s v : ℕ → ℝ) (lo hi : ℕ) (h : lo ≤ hi) (h0 : 0 < hi) (M : ℝ) :
    Ideal.div ((mass s v lo hi lo M : ℝ) : EReal) ((mass s 1 lo hi lo M : ℝ) : EReal) = ((average s v hi : ℝ) : EReal) := by
  have hw := weights_pos s hi h0
  have hne : mass s 1 lo hi lo M ≠ 0 := by
    rw [mass_all s 1 lo hi h]
    simp only [Pi.one_apply, mul_one]
    exact (mul_pos (Real.exp_pos _) hw).ne'
  rw [Ideal.div_coe hne, ← EReal.coe_mul, average, mass_all s v lo hi h, mass_all s 1 lo hi h]
  simp only [Pi.one_apply, mul_one]
  congr 1
  have := (Real.exp_pos (-M)).ne'
  field_simp

/-- The reference's row: every weight divided by the sum of the weights, the masked keys' weights zero. -/
theorem reference_row (s v : ℕ → ℝ) (hi n : ℕ) (h0 : 0 < hi) (hn : hi ≤ n) (M : ℝ) (f : Fin n → EReal)
    (hf : ∀ x : Fin n, f x = if x.val < hi then ((s x.val : ℝ) : EReal) else ⊥) :
    ∑ x : Fin n, ((v x.val : ℝ) : EReal) * Ideal.div (Ideal.exp (f x - (M : EReal))) (∑ z : Fin n, Ideal.exp (f z - (M : EReal)))
      = ((average s v hi : ℝ) : EReal) := by
  have hf' : ∀ x : Fin n, f x = if 0 + x.val < hi then ((s (0 + x.val) : ℝ) : EReal) else ⊥ := fun x => by
    rw [hf]; simp only [Nat.zero_add]
  have e1 := mass_start_one s 0 hi n (Nat.zero_le _) (by omega) M f hf'
  have e2 := mass_start s v 0 hi n (Nat.zero_le _) (by omega) M f hf'
  have hw := weights_pos s hi h0
  have hne : mass s 1 0 hi 0 M ≠ 0 := by
    rw [mass_all s 1 0 hi (Nat.zero_le _)]
    simp only [Pi.one_apply, mul_one]
    exact (mul_pos (Real.exp_pos _) hw).ne'
  have hr : ∀ x : Fin n, ∃ p : ℝ, Ideal.exp (f x - (M : EReal)) = p := fun x => by
    rw [hf]
    split
    · exact ⟨_, by rw [← EReal.coe_sub, Ideal.exp_coe]⟩
    · exact ⟨0, by rw [EReal.bot_sub, Ideal.exp_bot, EReal.coe_zero]⟩
  choose p hp using hr
  have q := quotient s v 0 hi (Nat.zero_le _) h0 M
  rw [← e2, Ideal.div_coe hne] at q
  rw [← q, e1]
  simp only [Ideal.div_coe hne, hp, Nat.zero_add, ← EReal.coe_mul, ← coe_sum]
  rw [Finset.sum_mul]
  congr 1
  refine Finset.sum_congr rfl fun x _ => ?_
  ring

end Cert.Softmax

end
-- ==== Proof.AttnChunk.lean ====
/-
  The attention kernel's arithmetic, one chunk of 512 keys at a time. A grid point holds the queries of 8 heads and 128
  positions as 1024 rows. It first takes the chunk of keys that its positions lie in, with the causal mask, and then
  every earlier chunk, without one. `Inv` says what the running maximum, the running sum and the running weighted
  values of all 1024 rows are in terms of real scores and values; the start makes it true and every trip keeps it.
-/
module

public import proofs.«01_k».proof.Proof.Softmax
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax

/-- The score of row `r` against key `j` of a chunk: the latent product plus the rotated product. -/
def score (x0 : Vec Ideal S8x128x512 .bf16) (x1 : Vec Ideal S8x128x128 .bf16) (a : Vec Ideal S512x512 .bf16)
    (b : Vec Ideal S512x128 .bf16) (r : Fin 1024) (j : Fin 512) : EReal :=
  ∑ x : Fin 512, x0 (ix3 (⟨r.val / 128, by omega⟩ : Fin 8) (⟨r.val % 128, by omega⟩ : Fin 128) x) * a (ix2 j x)
    + ∑ x : Fin 128, x1 (ix3 (⟨r.val / 128, by omega⟩ : Fin 8) (⟨r.val % 128, by omega⟩ : Fin 128) x) * b (ix2 j x)

/-- The scores of an unmasked chunk. -/
theorem pay12_entry (x0 : Vec Ideal S8x128x512 .bf16) (x1 : Vec Ideal S8x128x128 .bf16) (a : Vec Ideal S512x512 .bf16)
    (b : Vec Ideal S512x128 .bf16) (y : S1024x512.Idx) :
    k0_pay12 (k0_pay2 x0) (k0_pay3 x1) a b y = score x0 x1 a b (y 0) (y 1) := by
  pointwise [k0_pay12, k0_pay2, k0_pay3]
  rfl

/-- The word `k0_pay5` compares: the position of a key of the diagonal chunk. -/
theorem pay5_entry (i : grid0.Coords) (y : S1024x512.Idx) :
    k0_pay5 i y = BitVec.ofNat 32 (512 * ((i 1).val / 4) + (y 1).val) := by
  pointwise [k0_pay5]
  refine (congrArg (fun w => IntOp.addi w _) (?_ : _ = BitVec.ofNat 32 (512 * ((i 1).val / 4)))).trans (WordCmp.addi_ofNat _ _)
  generalize i 1 = n
  revert n
  decide +kernel

theorem ofBits_bot : Ideal.ofBits .f32 0xFF800000#32 = (⊥ : EReal) := by
  simp [Ideal.ofBits, Ideal.ieee]

/-- The scores of the diagonal chunk: a key after the row's own position has `⊥`. -/
theorem pay7_entry (x0 : Vec Ideal S8x128x512 .bf16) (x1 : Vec Ideal S8x128x128 .bf16) (a : Vec Ideal S512x512 .bf16)
    (b : Vec Ideal S512x128 .bf16) (i : grid0.Coords) (y : S1024x512.Idx) :
    k0_pay7 (k0_pay4 x0 x1 a b) (iota Kind.tc S1024x512 32 [0] iota_S1024x512_d0_w32) (k0_pay5 i)
        (Scalar.muli (BitVec.ofNat 32 (i 1).val) 128#32) k0_pay6 y
      = if 512 * ((i 1).val / 4) + (y 1).val < 128 * (i 1).val + (y 0).val % 128 + 1
          then score x0 x1 a b (y 0) (y 1) else ⊥ := by
  pointwise [k0_pay7, k0_pay4, k0_pay3, k0_pay2, k0_pay6]
  have hi : (i 1).val < 32 := (i 1).isLt
  have h0 : (y 0).val < 1024 := (y 0).isLt
  have h1 : (y 1).val < 512 := (y 1).isLt
  have e1 : IntOp.addi (Scalar.muli (BitVec.ofNat 32 (i 1).val) 128#32) (IntOp.andi (BitVec.ofNat 32 (y 0).val) 127#32)
      = BitVec.ofNat 32 (128 * (i 1).val + (y 0).val % 128) := by
    have e2 : Scalar.muli (BitVec.ofNat 32 (i 1).val) 128#32 = BitVec.ofNat 32 (128 * (i 1).val) := by
      rw [Nat.mul_comm]; exact WordCmp.muli_ofNat _ _
    have e3 : IntOp.andi (BitVec.ofNat 32 (y 0).val) 127#32 = BitVec.ofNat 32 ((y 0).val % 128) := by
      apply BitVec.eq_of_toNat_eq
      show (BitVec.ofNat 32 (y 0).val &&& 127#32).toNat = _
      rw [BitVec.toNat_and, BitVec.toNat_ofNat, BitVec.toNat_ofNat, BitVec.toNat_ofNat,
        Nat.mod_eq_of_lt (by omega : (y 0).val < 2 ^ 32), Nat.mod_eq_of_lt (by omega : (y 0).val % 128 < 2 ^ 32)]
      exact Nat.and_two_pow_sub_one_eq_mod (y 0).val 7
    rw [e2, e3]; exact WordCmp.addi_ofNat _ _
  rw [e1, pay5_entry, WordCmp.cmpi_sle_ofNat (by omega) (by omega), WordCmp.select_ofBool,
    IdealRules.named_const.ideal_named_scalar _ _ _ _ rfl]
  simp only [decide_eq_true_eq, Nat.lt_succ_iff]
  rfl

/-- The first key of the diagonal chunk of the block of positions `n`. -/
def lo (n : ℕ) : ℕ := 512 * (n / 4)

/-- The number of keys that row `r` of the block of positions `n` may look at. -/
def hi (n r : ℕ) : ℕ := 128 * n + r % 128 + 1

theorem lo_le_hi (n r : ℕ) : lo n ≤ hi n r := by unfold lo hi; omega

theorem hi_le (n r : ℕ) : hi n r ≤ lo n + 512 := by unfold lo hi; omega

theorem hi_pos (n r : ℕ) : 0 < hi n r := Nat.succ_pos _

/-- The running maximum `m`, sum `l` and weighted values `f` of all rows, when the diagonal chunk of the block of
    positions `n` and the first `e` keys have been seen. -/
def Inv (s v : ℕ → ℕ → ℝ) (n e : ℕ) (m l : FVec Ideal S1024x1 .f32) (f : FVec Ideal S1024x512 .f32) : Prop :=
  ∀ r : Fin 1024, ∃ M : ℝ, m (ix2 r 0) = (M : EReal)
    ∧ l (ix2 r 0) = ((mass (s r.val) 1 (lo n) (hi n r.val) e M : ℝ) : EReal)
    ∧ ∀ d : Fin 512, f (ix2 r d) = ((mass (s r.val) (fun j => v j d.val) (lo n) (hi n r.val) e M : ℝ) : EReal)

/-- The diagonal chunk makes the invariant true. -/
theorem start (s v : ℕ → ℕ → ℝ) (x0 : Vec Ideal S8x128x512 .bf16) (x1 : Vec Ideal S8x128x128 .bf16)
    (a : Vec Ideal S512x512 .bf16) (b : Vec Ideal S512x128 .bf16) (i : grid0.Coords)
    (hs : ∀ r j, score x0 x1 a b r j = ((s r.val (lo (i 1).val + j.val) : ℝ) : EReal))
    (hv : ∀ (j d : Fin 512), a (ix2 j d) = ((v (lo (i 1).val + j.val) d.val : ℝ) : EReal)) :
    Inv s v (i 1).val 0
      (k0_pay8 (k0_pay4 x0 x1 a b) (iota Kind.tc S1024x512 32 [0] iota_S1024x512_d0_w32) (k0_pay5 i)
        (Scalar.muli (BitVec.ofNat 32 (i 1).val) 128#32) k0_pay6)
      (k0_pay10 (k0_pay4 x0 x1 a b) (iota Kind.tc S1024x512 32 [0] iota_S1024x512_d0_w32) (k0_pay5 i)
        (Scalar.muli (BitVec.ofNat 32 (i 1).val) 128#32) k0_pay6)
      (k0_pay11 a (k0_pay4 x0 x1 a b) (iota Kind.tc S1024x512 32 [0] iota_S1024x512_d0_w32) (k0_pay5 i)
        (Scalar.muli (BitVec.ofNat 32 (i 1).val) 128#32) k0_pay6) := by
  intro r
  have hf : ∀ x : Fin 512, k0_pay7 (k0_pay4 x0 x1 a b) (iota Kind.tc S1024x512 32 [0] iota_S1024x512_d0_w32) (k0_pay5 i)
        (Scalar.muli (BitVec.ofNat 32 (i 1).val) 128#32) k0_pay6 (ix2 r x)
      = if lo (i 1).val + x.val < hi (i 1).val r.val then ((s r.val (lo (i 1).val + x.val) : ℝ) : EReal) else ⊥ := fun x => by
    rw [← hs]; exact pay7_entry x0 x1 a b i (ix2 r x)
  obtain ⟨M, hM⟩ := fold_max_real (fun x : Fin 512 => k0_pay7 (k0_pay4 x0 x1 a b)
      (iota Kind.tc S1024x512 32 [0] iota_S1024x512_d0_w32) (k0_pay5 i)
      (Scalar.muli (BitVec.ofNat 32 (i 1).val) 128#32) k0_pay6 (ix2 r x))
    (fun x => by
      rw [hf]; split
      · exact EReal.coe_ne_top _
      · exact bot_ne_top)
    0 (by rw [hf, if_pos (by unfold lo hi; simp; omega)]; exact EReal.coe_ne_bot _)
  have h8 : k0_pay8 (k0_pay4 x0 x1 a b) (iota Kind.tc S1024x512 32 [0] iota_S1024x512_d0_w32) (k0_pay5 i)
        (Scalar.muli (BitVec.ofNat 32 (i 1).val) 128#32) k0_pay6 (ix2 r 0) = (M : EReal) := by
    pointwise [k0_pay8]
    rw [ofBits_bot]
    exact hM
  refine ⟨M, h8, ?_, fun d => ?_⟩
  · pointwise [k0_pay10, k0_pay9]
    simp only [h8]
    exact mass_start_one _ _ _ _ (lo_le_hi _ _) (hi_le _ _) M _ hf
  · pointwise [k0_pay11, k0_pay9]
    simp only [h8, hv]
    exact mass_start _ (fun j => v j d.val) _ _ _ (lo_le_hi _ _) (hi_le _ _) M _ hf

/-- A chunk of 512 earlier keys keeps the invariant. -/
theorem step (s v : ℕ → ℕ → ℝ) (x0 : Vec Ideal S8x128x512 .bf16) (x1 : Vec Ideal S8x128x128 .bf16)
    (a : Vec Ideal S512x512 .bf16) (b : Vec Ideal S512x128 .bf16) (n e : ℕ)
    (hs : ∀ r j, score x0 x1 a b r j = ((s r.val (e + j.val) : ℝ) : EReal))
    (hv : ∀ (j d : Fin 512), a (ix2 j d) = ((v (e + j.val) d.val : ℝ) : EReal))
    (m l : FVec Ideal S1024x1 .f32) (f : FVec Ideal S1024x512 .f32) (h : Inv s v n e m l f) :
    Inv s v n (e + 512) (k0_pay13 (k0_pay2 x0) (k0_pay3 x1) m a b) (k0_pay16 (k0_pay2 x0) (k0_pay3 x1) m l a b)
      (k0_pay17 (k0_pay2 x0) (k0_pay3 x1) m a b f) := by
  intro r
  obtain ⟨M, hm, hl, hf⟩ := h r
  have hp : ∀ x : Fin 512, k0_pay12 (k0_pay2 x0) (k0_pay3 x1) a b (ix2 r x) = ((s r.val (e + x.val) : ℝ) : EReal) :=
    fun x => (pay12_entry x0 x1 a b (ix2 r x)).trans (hs r x)
  obtain ⟨M1, hM1⟩ := fold_max_real (fun x : Fin 512 => k0_pay12 (k0_pay2 x0) (k0_pay3 x1) a b (ix2 r x))
    (fun x => by rw [hp]; exact EReal.coe_ne_top _) 0 (by rw [hp]; exact EReal.coe_ne_bot _)
  have h13 : k0_pay13 (k0_pay2 x0) (k0_pay3 x1) m a b (ix2 r 0) = ((max M M1 : ℝ) : EReal) := by
    pointwise [k0_pay13]
    rw [ofBits_bot, hm]
    exact (congrArg (max (M : EReal)) hM1).trans (EReal.coe_strictMono.monotone.map_max (a := M) (b := M1)).symm
  refine ⟨max M M1, h13, ?_, fun d => ?_⟩
  · pointwise [k0_pay16, k0_pay14, k0_pay15]
    simp only [h13, hm, hl, hp]
    exact mass_step_one _ _ _ _ _ _ _
  · pointwise [k0_pay17, k0_pay14, k0_pay15]
    simp only [h13, hm, hf, hp, hv]
    exact mass_step _ (fun j => v j d.val) _ _ _ _ _ _

/-- When every earlier key has been seen, the weighted values over the sum are the softmax average. -/
theorem finish (s v : ℕ → ℕ → ℝ) (n : ℕ) (m l : FVec Ideal S1024x1 .f32) (f : FVec Ideal S1024x512 .f32)
    (h : Inv s v n (lo n) m l f) (r : Fin 1024) (d : Fin 512) :
    k0_pay24 l f (ix2 r d) = ((average (s r.val) (fun j => v j d.val) (hi n r.val) : ℝ) : EReal) := by
  obtain ⟨M, hm, hl, hf⟩ := h r
  pointwise [k0_pay24]
  simp only [hl, hf]
  exact quotient _ _ _ _ (lo_le_hi _ _) (hi_pos _ _) M

end Cert.KernelIdeal.Value

end
-- ==== Proof.AttnTerm.lean ====
/-
  What one grid point of the attention kernel computes, as a term: the diagonal chunk, the loop over the earlier
  chunks with what one trip does, and the eight stores of the normed heads.
-/
module

public import proofs.«01_k».proof.Proof.AttnChunk
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax

variable {F : FTy → Type} [FloatOps F] [Named F]

/-- The sum of squares over the first three heads. -/
abbrev squares (l : FVec F S1024x1 .f32) (f : Vec F S1024x512 .f32) (w0 w1 w2 : Vec F S1x512x128 .bf16) : FVec F S128x1 .f32 :=
  k0_pay34 (k0_pay25 l f w0) (k0_pay26 l f w1) (k0_pay27 l f) w2

/-- The factor that norms a row. -/
abbrev factor (l : FVec F S1024x1 .f32) (f : Vec F S1024x512 .f32) (w0 w1 w2 w3 w4 w5 w6 w7 : Vec F S1x512x128 .bf16) : FVec F S128x1 .f32 :=
  k0_pay35 (k0_pay29 (k0_pay24 l f) w3) (k0_pay30 (k0_pay24 l f) w4) (k0_pay31 (k0_pay24 l f) w5) (k0_pay32 (k0_pay24 l f) w6) (k0_pay33 (k0_pay24 l f) w7) (squares l f w0 w1 w2)

/-- The eight stores of a grid point, last first, from the running sum `l`, the weighted values `f`, the heads'
    matrices and the eight parts of the gain. -/
abbrev tiles (l : FVec F S1024x1 .f32) (f : Vec F S1024x512 .f32) (w0 w1 w2 w3 w4 w5 w6 w7 : Vec F S1x512x128 .bf16)
    (g0 g1 g2 g3 g4 g5 g6 g7 : Vec F S1x128 .f32) : List (View.Piece (Elt F) S128x1024 .bf16) :=
  [⟨Rect.unit (s := S128x1024) ![0, 896] S128x128.size inb_S128x1024_S128x128_0_896, k0_pay1 (k0_pay44 (k0_pay33 (k0_pay24 l f) w7) (factor l f w0 w1 w2 w3 w4 w5 w6 w7)) g7⟩,
    ⟨Rect.unit (s := S128x1024) ![0, 768] S128x128.size inb_S128x1024_S128x128_0_768, k0_pay43 (k0_pay32 (k0_pay24 l f) w6) (factor l f w0 w1 w2 w3 w4 w5 w6 w7) g6⟩,
    ⟨Rect.unit (s := S128x1024) ![0, 640] S128x128.size inb_S128x1024_S128x128_0_640, k0_pay42 (k0_pay31 (k0_pay24 l f) w5) (factor l f w0 w1 w2 w3 w4 w5 w6 w7) g5⟩,
    ⟨Rect.unit (s := S128x1024) ![0, 512] S128x128.size inb_S128x1024_S128x128_0_512, k0_pay41 (k0_pay30 (k0_pay24 l f) w4) (factor l f w0 w1 w2 w3 w4 w5 w6 w7) g4⟩,
    ⟨Rect.unit (s := S128x1024) ![0, 384] S128x128.size inb_S128x1024_S128x128_0_384, k0_pay40 (k0_pay29 (k0_pay24 l f) w3) (factor l f w0 w1 w2 w3 w4 w5 w6 w7) g3⟩,
    ⟨Rect.unit (s := S128x1024) ![0, 256] S128x128.size inb_S128x1024_S128x128_0_256, k0_pay39 (k0_pay38 (k0_pay28 (k0_pay27 l f) w2) (k0_pay29 (k0_pay24 l f) w3) (k0_pay30 (k0_pay24 l f) w4) (k0_pay31 (k0_pay24 l f) w5) (k0_pay32 (k0_pay24 l f) w6) (k0_pay33 (k0_pay24 l f) w7) (squares l f w0 w1 w2)) g2⟩,
    ⟨Rect.unit (s := S128x1024) ![0, 128] S128x128.size inb_S128x1024_S128x128_0_128, k0_pay37 (k0_pay26 l f w1) (k0_pay29 (k0_pay24 l f) w3) (k0_pay30 (k0_pay24 l f) w4) (k0_pay31 (k0_pay24 l f) w5) (k0_pay32 (k0_pay24 l f) w6) (k0_pay33 (k0_pay24 l f) w7) (squares l f w0 w1 w2) g1⟩,
    ⟨Rect.unit (s := S128x1024) ![0, 0] S128x128.size inb_S128x1024_S128x128_0_0, k0_pay36 (k0_pay25 l f w0) (k0_pay29 (k0_pay24 l f) w3) (k0_pay30 (k0_pay24 l f) w4) (k0_pay31 (k0_pay24 l f) w5) (k0_pay32 (k0_pay24 l f) w6) (k0_pay33 (k0_pay24 l f) w7) (squares l f w0 w1 w2) g0⟩]

/-- The rectangle of the whole scratch. -/
abbrev full : Rect S1024x512 := Rect.unit (s := S1024x512) ![0, 0] S1024x512.size inb_S1024x512_S1024x512_0_0

/-- The store of the diagonal chunk's weighted values. -/
abbrev store0 (i : grid0.Coords) (v24 : Vec F S512x512 .bf16) (v29 : FVec F S1024x512 .f32) : View.Piece (Elt F) S1024x512 .f32 :=
  ⟨full, k0_pay11 v24 v29 (iota Kind.tc S1024x512 32 [0] iota_S1024x512_d0_w32) (k0_pay5 i)
    (Scalar.muli (BitVec.ofNat 32 (i 1).val) 128#32) k0_pay6⟩

/-- The state before trip `k` of the loop over the earlier chunks. -/
abbrev loop1 (c : Dev nD) (i : grid0.Coords) (arg2 : Memref sig .tc .vmem S8x128x512 .bf16) (harg2 : arg2.IsWhole) (arg3 : Memref sig .tc .vmem S8x128x128 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S8x512x128 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1024x512 .f32) (harg9 : arg9.IsWhole)
    (v1 : FVec F S1024x512 .bf16) (v3 : FVec F S1024x128 .bf16) (u : BitVec 32) (v24 : Vec F S512x512 .bf16) (v29 : FVec F S1024x512 .f32)
    (X_arg4 : BufTy.Contents (Elt F) arg4.view.ty) (X_arg5 : BufTy.Contents (Elt F) arg5.view.ty) (k : ℕ) : (FVec F S1024x1 .f32 × FVec F S1024x1 .f32) × List (View.Piece (Elt F) S1024x512 .f32) :=
  st_k0_t1 Variants.none c none i arg2 harg2 arg3 harg3 arg4 harg4 arg5 harg5 arg6 harg6 arg7 harg7 arg8 harg8 arg9 harg9 v1 v3 u v24 v29 (iota Kind.tc S1024x512 32 [0] iota_S1024x512_d0_w32) (k0_pay5 i)
    (Scalar.muli (BitVec.ofNat 32 (i 1).val) 128#32) k0_pay6
    X_arg4 X_arg5 (arg9.view.writes (Elt F) arg9.view.junk [store0 i v24 v29])
    (k0_pay8 v29 (iota Kind.tc S1024x512 32 [0] iota_S1024x512_d0_w32) (k0_pay5 i)
    (Scalar.muli (BitVec.ofNat 32 (i 1).val) 128#32) k0_pay6,
     k0_pay10 v29 (iota Kind.tc S1024x512 32 [0] iota_S1024x512_d0_w32) (k0_pay5 i)
    (Scalar.muli (BitVec.ofNat 32 (i 1).val) 128#32) k0_pay6) k

/-- The state before trip `k` of the loop that finishes what the first has left, after `n` trips of the first. -/
abbrev loop2 (c : Dev nD) (i : grid0.Coords) (arg2 : Memref sig .tc .vmem S8x128x512 .bf16) (harg2 : arg2.IsWhole) (arg3 : Memref sig .tc .vmem S8x128x128 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S8x512x128 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1024x512 .f32) (harg9 : arg9.IsWhole)
    (v1 : FVec F S1024x512 .bf16) (v3 : FVec F S1024x128 .bf16) (u : BitVec 32) (v24 : Vec F S512x512 .bf16) (v29 : FVec F S1024x512 .f32)
    (X_arg4 : BufTy.Contents (Elt F) arg4.view.ty) (X_arg5 : BufTy.Contents (Elt F) arg5.view.ty) (n k : ℕ) : (FVec F S1024x1 .f32 × FVec F S1024x1 .f32) × List (View.Piece (Elt F) S1024x512 .f32) :=
  st_k0_t2 Variants.none c none i arg2 harg2 arg3 harg3 arg4 harg4 arg5 harg5 arg6 harg6 arg7 harg7 arg8 harg8 arg9 harg9 v1 v3 u v24 v29 (iota Kind.tc S1024x512 32 [0] iota_S1024x512_d0_w32) (k0_pay5 i)
    (Scalar.muli (BitVec.ofNat 32 (i 1).val) 128#32) k0_pay6
    X_arg4 X_arg5
    (arg9.view.writes (Elt F) arg9.view.junk ((loop1 c i arg2 harg2 arg3 harg3 arg4 harg4 arg5 harg5 arg6 harg6 arg7 harg7 arg8 harg8 arg9 harg9 v1 v3 u v24 v29 X_arg4 X_arg5 n).2 ++ [store0 i v24 v29]))
    ((loop1 c i arg2 harg2 arg3 harg3 arg4 harg4 arg5 harg5 arg6 harg6 arg7 harg7 arg8 harg8 arg9 harg9 v1 v3 u v24 v29 X_arg4 X_arg5 n).1.1, (loop1 c i arg2 harg2 arg3 harg3 arg4 harg4 arg5 harg5 arg6 harg6 arg7 harg7 arg8 harg8 arg9 harg9 v1 v3 u v24 v29 X_arg4 X_arg5 n).1.2) k

/-- The maximum and the sum that a trip over the chunk of keys `k` yields. -/
theorem trip_values (𝒱 : Variants) (c : Dev nD) (bd : Option 𝒱.V) (i : grid0.Coords) (arg2 : Memref sig .tc .vmem S8x128x512 .bf16) (harg2 : arg2.IsWhole) (arg3 : Memref sig .tc .vmem S8x128x128 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S8x512x128 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1024x512 .f32) (harg9 : arg9.IsWhole) (v1 : FVec F S1024x512 .bf16) (v3 : FVec F S1024x128 .bf16) (v20 : BitVec 32) (v24 : Vec F S512x512 .bf16) (v29 : FVec F S1024x512 .f32) (v30 : IVec S1024x512 32) (v34 : IVec S1024x512 32) (v35 : BitVec 32) (v36 : IVec S1024x512 32) (X_arg4 : BufTy.Contents (Elt F) arg4.view.ty) (X_arg5 : BufTy.Contents (Elt F) arg5.view.ty) (k : Fin (k0_t1_loop i).trips) (acc : FVec F S1024x1 .f32 × FVec F S1024x1 .f32) (f_arg9 : BufTy.Contents (Elt F) arg9.view.ty) :
    tripR_k0_t1 𝒱 c bd i arg2 harg2 arg3 harg3 arg4 harg4 arg5 harg5 arg6 harg6 arg7 harg7 arg8 harg8 arg9 harg9 v1 v3 v20 v24 v29 v30 v34 v35 v36 X_arg4 X_arg5 k acc f_arg9
      = (k0_pay13 v1 v3 acc.1 (View.readAt (Elt F) arg4.view (Rect.unit (s := S4096x512) (k0_off3 i k) S512x512.size (k0_off3_inb i k)).toLoadRect X_arg4)
          (View.readAt (Elt F) arg5.view (Rect.unit (s := S4096x128) (k0_off4 i k) S512x128.size (k0_off4_inb i k)).toLoadRect X_arg5),
         k0_pay16 v1 v3 acc.1 acc.2 (View.readAt (Elt F) arg4.view (Rect.unit (s := S4096x512) (k0_off3 i k) S512x512.size (k0_off3_inb i k)).toLoadRect X_arg4)
          (View.readAt (Elt F) arg5.view (Rect.unit (s := S4096x128) (k0_off4 i k) S512x128.size (k0_off4_inb i k)).toLoadRect X_arg5)) := by
  unfold tripR_k0_t1 trip_k0_t1
  rfl

/-- The weighted values that a trip over the chunk of keys `k` stores. -/
theorem trip_store (𝒱 : Variants) (c : Dev nD) (bd : Option 𝒱.V) (i : grid0.Coords) (arg2 : Memref sig .tc .vmem S8x128x512 .bf16) (harg2 : arg2.IsWhole) (arg3 : Memref sig .tc .vmem S8x128x128 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S8x512x128 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1024x512 .f32) (harg9 : arg9.IsWhole) (v1 : FVec F S1024x512 .bf16) (v3 : FVec F S1024x128 .bf16) (v20 : BitVec 32) (v24 : Vec F S512x512 .bf16) (v29 : FVec F S1024x512 .f32) (v30 : IVec S1024x512 32) (v34 : IVec S1024x512 32) (v35 : BitVec 32) (v36 : IVec S1024x512 32) (X_arg4 : BufTy.Contents (Elt F) arg4.view.ty) (X_arg5 : BufTy.Contents (Elt F) arg5.view.ty) (k : Fin (k0_t1_loop i).trips) (acc : FVec F S1024x1 .f32 × FVec F S1024x1 .f32) (f_arg9 : BufTy.Contents (Elt F) arg9.view.ty) :
    tripL_k0_t1 𝒱 c bd i arg2 harg2 arg3 harg3 arg4 harg4 arg5 harg5 arg6 harg6 arg7 harg7 arg8 harg8 arg9 harg9 v1 v3 v20 v24 v29 v30 v34 v35 v36 X_arg4 X_arg5 k acc f_arg9
      = [⟨full, k0_pay17 v1 v3 acc.1 (View.readAt (Elt F) arg4.view (Rect.unit (s := S4096x512) (k0_off3 i k) S512x512.size (k0_off3_inb i k)).toLoadRect X_arg4)
          (View.readAt (Elt F) arg5.view (Rect.unit (s := S4096x128) (k0_off4 i k) S512x128.size (k0_off4_inb i k)).toLoadRect X_arg5)
          (View.readAt (Elt F) arg9.view full.toLoadRect f_arg9)⟩] := by
  unfold tripL_k0_t1 trip_k0_t1
  rfl

/-- The pieces that a run of the body leaves. The word `u` is not read. -/
theorem run_tiles (c : Dev nD) (i : grid0.Coords) (arg2 : Memref sig .tc .vmem S8x128x512 .bf16) (harg2 : arg2.IsWhole) (arg3 : Memref sig .tc .vmem S8x128x128 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S8x512x128 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1024x512 .f32) (harg9 : arg9.IsWhole)
    (x0 : Vec F S8x128x512 .bf16) (x1 : Vec F S8x128x128 .bf16) (x2 : Vec F S4096x512 .bf16) (x3 : Vec F S4096x128 .bf16) (x4 : Vec F S8x512x128 .bf16) (x5 : Vec F S1x1024 .f32) :
    ∃ u : BitVec 32, (kernelRun0_A c i arg2 harg2 arg3 harg3 arg4 harg4 arg5 harg5 arg6 harg6 arg7 harg7 arg8 harg8 arg9 harg9 x0 x1 x2 x3 x4 x5).1
      = tiles (loop2 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) (k0_t1_loop i).trips (k0_t2_loop i).trips).1.2
        (arg9.view.readCov ((loop2 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) (k0_t1_loop i).trips (k0_t2_loop i).trips).2
          ++ ((loop1 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) (k0_t1_loop i).trips).2
            ++ [store0 i (View.ld x2 (Rect.unit (s := S4096x512) (k0_off1 i) S512x512.size (k0_off1_inb i))) (k0_pay4 x0 x1 (View.ld x2 (Rect.unit (s := S4096x512) (k0_off1 i) S512x512.size (k0_off1_inb i)))
          (View.ld x3 (Rect.unit (s := S4096x128) (k0_off2 i) S512x128.size (k0_off2_inb i))))])) full.toLoadRect)
        (View.ld x4 (Rect.unit (s := S8x512x128) ![0, 0, 0] S1x512x128.size inb_S8x512x128_S1x512x128_0_0_0)) (View.ld x4 (Rect.unit (s := S8x512x128) ![1, 0, 0] S1x512x128.size inb_S8x512x128_S1x512x128_1_0_0)) (View.ld x4 (Rect.unit (s := S8x512x128) ![2, 0, 0] S1x512x128.size inb_S8x512x128_S1x512x128_2_0_0)) (View.ld x4 (Rect.unit (s := S8x512x128) ![3, 0, 0] S1x512x128.size inb_S8x512x128_S1x512x128_3_0_0)) (View.ld x4 (Rect.unit (s := S8x512x128) ![4, 0, 0] S1x512x128.size inb_S8x512x128_S1x512x128_4_0_0)) (View.ld x4 (Rect.unit (s := S8x512x128) ![5, 0, 0] S1x512x128.size inb_S8x512x128_S1x512x128_5_0_0)) (View.ld x4 (Rect.unit (s := S8x512x128) ![6, 0, 0] S1x512x128.size inb_S8x512x128_S1x512x128_6_0_0)) (View.ld x4 (Rect.unit (s := S8x512x128) ![7, 0, 0] S1x512x128.size inb_S8x512x128_S1x512x128_7_0_0))
        (View.ld x5 (Rect.unit (s := S1x1024) ![0, 0] S1x128.size inb_S1x1024_S1x128_0_0)) (View.ld x5 (Rect.unit (s := S1x1024) ![0, 128] S1x128.size inb_S1x1024_S1x128_0_128)) (View.ld x5 (Rect.unit (s := S1x1024) ![0, 256] S1x128.size inb_S1x1024_S1x128_0_256)) (View.ld x5 (Rect.unit (s := S1x1024) ![0, 384] S1x128.size inb_S1x1024_S1x128_0_384)) (View.ld x5 (Rect.unit (s := S1x1024) ![0, 512] S1x128.size inb_S1x1024_S1x128_0_512)) (View.ld x5 (Rect.unit (s := S1x1024) ![0, 640] S1x128.size inb_S1x1024_S1x128_0_640)) (View.ld x5 (Rect.unit (s := S1x1024) ![0, 768] S1x128.size inb_S1x1024_S1x128_0_768)) (View.ld x5 (Rect.unit (s := S1x1024) ![0, 896] S1x128.size inb_S1x1024_S1x128_0_896)) := by
  have h2 : ∀ r : Rect S8x128x512, View.readAt (Elt F) arg2.view r.toLoadRect (harg2.unread x0) = View.ld x0 r := fun r => by
    rw [View.readAt_eq_ld, harg2.read_unread]
  have h3 : ∀ r : Rect S8x128x128, View.readAt (Elt F) arg3.view r.toLoadRect (harg3.unread x1) = View.ld x1 r := fun r => by
    rw [View.readAt_eq_ld, harg3.read_unread]
  have h4 : ∀ r : Rect S4096x512, View.readAt (Elt F) arg4.view r.toLoadRect (harg4.unread x2) = View.ld x2 r := fun r => by
    rw [View.readAt_eq_ld, harg4.read_unread]
  have h5 : ∀ r : Rect S4096x128, View.readAt (Elt F) arg5.view r.toLoadRect (harg5.unread x3) = View.ld x3 r := fun r => by
    rw [View.readAt_eq_ld, harg5.read_unread]
  have h6 : ∀ r : Rect S8x512x128, View.readAt (Elt F) arg6.view r.toLoadRect (harg6.unread x4) = View.ld x4 r := fun r => by
    rw [View.readAt_eq_ld, harg6.read_unread]
  have h7 : ∀ r : Rect S1x1024, View.readAt (Elt F) arg7.view r.toLoadRect (harg7.unread x5) = View.ld x5 r := fun r => by
    rw [View.readAt_eq_ld, harg7.read_unread]
  have e0 : View.readAt (Elt F) arg2.view (Rect.unit (s := S8x128x512) ![0, 0, 0] S8x128x512.size inb_S8x128x512_S8x128x512_0_0_0).toLoadRect (harg2.unread x0) = x0 :=
    (h2 _).trans (View.ld_unit_zero (by decide) _ _)
  have e1 : View.readAt (Elt F) arg3.view (Rect.unit (s := S8x128x128) ![0, 0, 0] S8x128x128.size inb_S8x128x128_S8x128x128_0_0_0).toLoadRect (harg3.unread x1) = x1 :=
    (h3 _).trans (View.ld_unit_zero (by decide) _ _)
  have r0 : kernelRun0_A.sl.r c arg2 harg2 x0 = k0_pay2 x0 := congrArg k0_pay2 e0
  have r1 : kernelRun0_A.sl.r_1 c arg3 harg3 x1 = k0_pay3 x1 := congrArg k0_pay3 e1
  have r2 : kernelRun0_A.sl.r_2 c i arg4 harg4 x2 = (View.ld x2 (Rect.unit (s := S4096x512) (k0_off1 i) S512x512.size (k0_off1_inb i))) := h4 _
  have r3 : kernelRun0_A.sl.r_3 c i arg2 harg2 arg3 harg3 arg4 harg4 arg5 harg5 x0 x1 x2 x3
      = k0_pay4 x0 x1 (View.ld x2 (Rect.unit (s := S4096x512) (k0_off1 i) S512x512.size (k0_off1_inb i)))
          (View.ld x3 (Rect.unit (s := S4096x128) (k0_off2 i) S512x128.size (k0_off2_inb i))) := by
    rw [← h4, ← h5]
    exact congrArg₂ (fun a b => k0_pay4 a b _ _) e0 e1
  refine ⟨kernelRun0_A.sl.v20 i, ?_⟩
  rw [← r3, ← r2, ← r0, ← r1]
  simp only [← h6, ← h7]
  unfold kernelRun0_A
  rfl

end Cert.KernelIdeal.Value

end
-- ==== Proof.AttnLoop.lean ====
/-
  The loop over the earlier chunks keeps the invariant of the online softmax, so at its end the weighted values over the
  sum are the softmax averages. The second loop makes no trips.
-/
module

public import proofs.«01_k».proof.Proof.AttnTerm
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax

/-- The number of earlier chunks. -/
theorem trips1 (i : grid0.Coords) : (k0_t1_loop i).trips = (i 1).val / 4 := by
  unfold k0_t1_loop
  generalize i 1 = n
  revert n
  decide +kernel

/-- The second loop makes no trips. -/
theorem trips2 (i : grid0.Coords) : (k0_t2_loop i).trips = 0 := by
  unfold k0_t2_loop
  generalize i 1 = n
  revert n
  decide +kernel

theorem off1 (i : grid0.Coords) : k0_off1 i = ![lo (i 1).val, 0] := by
  unfold k0_off1 lo
  generalize i 1 = n
  revert n
  decide +kernel

theorem off2 (i : grid0.Coords) : k0_off2 i = ![lo (i 1).val, 0] := by
  unfold k0_off2 lo
  generalize i 1 = n
  revert n
  decide +kernel

theorem trip_lt (i : grid0.Coords) (k : Fin (k0_t1_loop i).trips) : k.val < 8 := by
  have h := k.isLt
  have h1 : (i 1).val < 32 := (i 1).isLt
  have h2 := trips1 i
  omega

theorem off3 (i : grid0.Coords) (k : Fin (k0_t1_loop i).trips) : k0_off3 i k = ![512 * k.val, 0] := by
  have h := trip_lt i k
  unfold k0_off3
  exact (by decide +kernel : ∀ k : Fin 8, (![(Scalar.indexCast (Scalar.muli (Scf.iv 0#32 1#32 k.val) 512#32) : Index).toNat, 0] : Fin 2 → ℕ)
    = ![512 * k.val, 0]) ⟨k.val, h⟩

theorem off4 (i : grid0.Coords) (k : Fin (k0_t1_loop i).trips) : k0_off4 i k = ![512 * k.val, 0] :=
  off3 i k

/-- The score of row `r` against key `j` of all 4096 keys. -/
def allScores (x0 : Vec Ideal S8x128x512 .bf16) (x1 : Vec Ideal S8x128x128 .bf16) (x2 : Vec Ideal S4096x512 .bf16) (x3 : Vec Ideal S4096x128 .bf16)
    (r : Fin 1024) (j : Fin 4096) : EReal :=
  ∑ x : Fin 512, x0 (ix3 (⟨r.val / 128, by omega⟩ : Fin 8) (⟨r.val % 128, by omega⟩ : Fin 128) x) * x2 (ix2 j x)
    + ∑ x : Fin 128, x1 (ix3 (⟨r.val / 128, by omega⟩ : Fin 8) (⟨r.val % 128, by omega⟩ : Fin 128) x) * x3 (ix2 j x)

/-- A chunk of the latent keys at an index. -/
theorem chunk4 (x2 : Vec Ideal S4096x512 .bf16) (off : Fin 2 → ℕ) (inb) (e : ℕ) (ho : off = ![e, 0]) (j d : Fin 512)
    (hj : e + j.val < 4096) :
    View.ld x2 (Rect.unit (s := S4096x512) off S512x512.size inb) (ix2 j d) = x2 (ix2 (⟨e + j.val, hj⟩ : Fin 4096) d) := by
  subst ho
  refine View.ld_unit_apply_of _ _ _ _ _ _ fun a => ?_
  fin_cases a
  · rfl
  · exact (Nat.zero_add _).symm

/-- A chunk of the rotated keys at an index. -/
theorem chunk5 (x3 : Vec Ideal S4096x128 .bf16) (off : Fin 2 → ℕ) (inb) (e : ℕ) (ho : off = ![e, 0]) (j : Fin 512) (d : Fin 128)
    (hj : e + j.val < 4096) :
    View.ld x3 (Rect.unit (s := S4096x128) off S512x128.size inb) (ix2 j d) = x3 (ix2 (⟨e + j.val, hj⟩ : Fin 4096) d) := by
  subst ho
  refine View.ld_unit_apply_of _ _ _ _ _ _ fun a => ?_
  fin_cases a
  · rfl
  · exact (Nat.zero_add _).symm

/-- The scores of a chunk are the scores of its keys. -/
theorem score_chunk (x0 : Vec Ideal S8x128x512 .bf16) (x1 : Vec Ideal S8x128x128 .bf16) (x2 : Vec Ideal S4096x512 .bf16) (x3 : Vec Ideal S4096x128 .bf16)
    (off off' : Fin 2 → ℕ) (inb inb') (e : ℕ) (ho : off = ![e, 0]) (ho' : off' = ![e, 0]) (r : Fin 1024) (j : Fin 512)
    (hj : e + j.val < 4096) :
    score x0 x1 (View.ld x2 (Rect.unit (s := S4096x512) off S512x512.size inb))
        (View.ld x3 (Rect.unit (s := S4096x128) off' S512x128.size inb')) r j
      = allScores x0 x1 x2 x3 r ⟨e + j.val, hj⟩ := by
  unfold score allScores
  simp only [chunk4 x2 off inb e ho _ _ hj, chunk5 x3 off' inb' e ho' _ _ hj]

/-- The scratch after a store of the whole of it. -/
theorem read_full (v : View sig .tc .vmem S1024x512 .f32) (f : v.ty.Contents (Elt Ideal)) (w : FVec Ideal S1024x512 .f32)
    (L : List (View.Piece (Elt Ideal) S1024x512 .f32)) :
    v.read (Elt Ideal) (v.writes (Elt Ideal) f (⟨full, w⟩ :: L)) = w := by
  funext y
  refine View.read_writes_cons_unit_of_mem v f inb_S1024x512_S1024x512_0_0 w L y y rfl fun a => ?_
  fin_cases a <;> exact (Nat.zero_add _).symm

/-- A load of the whole scratch. -/
theorem load_full (v : View sig .tc .vmem S1024x512 .f32) (f : v.ty.Contents (Elt Ideal)) :
    View.readAt (Elt Ideal) v full.toLoadRect f = v.read (Elt Ideal) f := by
  rw [View.readAt_eq_ld]; exact View.ld_unit_zero (by decide) _ _

/-- The state before trip `k` of the loop over the earlier chunks. -/
theorem loop1_inv (c : Dev nD) (i : grid0.Coords) (arg2 : Memref sig .tc .vmem S8x128x512 .bf16) (harg2 : arg2.IsWhole) (arg3 : Memref sig .tc .vmem S8x128x128 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S8x512x128 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1024x512 .f32) (harg9 : arg9.IsWhole)
    (x0 : Vec Ideal S8x128x512 .bf16) (x1 : Vec Ideal S8x128x128 .bf16) (x2 : Vec Ideal S4096x512 .bf16) (x3 : Vec Ideal S4096x128 .bf16)
    (u : BitVec 32) (s v : ℕ → ℕ → ℝ) (hs : ∀ (r : Fin 1024) (j : Fin 4096), allScores x0 x1 x2 x3 r j = ((s r.val j.val : ℝ) : EReal))
    (hv : ∀ (j : Fin 4096) (d : Fin 512), x2 (ix2 j d) = ((v j.val d.val : ℝ) : EReal))
    (k : ℕ) (hk : k ≤ (k0_t1_loop i).trips) :
    Inv s v (i 1).val (512 * k) (loop1 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) k).1.1
      (loop1 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) k).1.2
      (arg9.view.read (Elt Ideal) (arg9.view.writes (Elt Ideal) (arg9.view.writes (Elt Ideal) arg9.view.junk
        [store0 i (View.ld x2 (Rect.unit (s := S4096x512) (k0_off1 i) S512x512.size (k0_off1_inb i))) (k0_pay4 x0 x1 (View.ld x2 (Rect.unit (s := S4096x512) (k0_off1 i) S512x512.size (k0_off1_inb i)))
          (View.ld x3 (Rect.unit (s := S4096x128) (k0_off2 i) S512x128.size (k0_off2_inb i))))])
        (loop1 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) k).2)) := by
  have hn : (i 1).val < 32 := (i 1).isLt
  have hlo : lo (i 1).val + 512 ≤ 4096 := by unfold lo; omega
  induction k with
  | zero =>
    have e : loop1 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) 0
        = ((k0_pay8 (k0_pay4 x0 x1 (View.ld x2 (Rect.unit (s := S4096x512) (k0_off1 i) S512x512.size (k0_off1_inb i)))
          (View.ld x3 (Rect.unit (s := S4096x128) (k0_off2 i) S512x128.size (k0_off2_inb i)))) (iota Kind.tc S1024x512 32 [0] iota_S1024x512_d0_w32) (k0_pay5 i)
    (Scalar.muli (BitVec.ofNat 32 (i 1).val) 128#32) k0_pay6,
         k0_pay10 (k0_pay4 x0 x1 (View.ld x2 (Rect.unit (s := S4096x512) (k0_off1 i) S512x512.size (k0_off1_inb i)))
          (View.ld x3 (Rect.unit (s := S4096x128) (k0_off2 i) S512x128.size (k0_off2_inb i)))) (iota Kind.tc S1024x512 32 [0] iota_S1024x512_d0_w32) (k0_pay5 i)
    (Scalar.muli (BitVec.ofNat 32 (i 1).val) 128#32) k0_pay6), []) := rfl
    rw [e, View.writes_nil, read_full, Nat.mul_zero]
    have hst := start s v x0 x1 (View.ld x2 (Rect.unit (s := S4096x512) (k0_off1 i) S512x512.size (k0_off1_inb i))) (View.ld x3 (Rect.unit (s := S4096x128) (k0_off2 i) S512x128.size (k0_off2_inb i))) i
      (fun r j => (score_chunk x0 x1 x2 x3 _ _ _ _ _ (off1 i) (off2 i) r j (by omega)).trans (hs r _))
      (fun j d => (chunk4 x2 _ _ _ (off1 i) j d (by omega)).trans (hv _ d))
    convert hst using 1
  | succ k ih =>
    have h8 : k < 8 := trip_lt i ⟨k, hk⟩
    have h4 : ∀ r : Rect S4096x512, View.readAt (Elt Ideal) arg4.view r.toLoadRect (harg4.unread x2) = View.ld x2 r := fun r => by
      rw [View.readAt_eq_ld, harg4.read_unread]
    have h5 : ∀ r : Rect S4096x128, View.readAt (Elt Ideal) arg5.view r.toLoadRect (harg5.unread x3) = View.ld x3 r := fun r => by
      rw [View.readAt_eq_ld, harg5.read_unread]
    have hst := st_k0_t1_succ (F := Ideal) Variants.none c none i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i)))) (iota Kind.tc S1024x512 32 [0] iota_S1024x512_d0_w32) (k0_pay5 i)     (Scalar.muli (BitVec.ofNat 32 (i 1).val) 128#32) k0_pay6
        (harg4.unread x2) (harg5.unread x3) (arg9.view.writes (Elt Ideal) arg9.view.junk
        [store0 i (View.ld x2 (Rect.unit (s := S4096x512) (k0_off1 i) S512x512.size (k0_off1_inb i))) (k0_pay4 x0 x1 (View.ld x2 (Rect.unit (s := S4096x512) (k0_off1 i) S512x512.size (k0_off1_inb i)))
          (View.ld x3 (Rect.unit (s := S4096x128) (k0_off2 i) S512x128.size (k0_off2_inb i))))])
        (k0_pay8 (k0_pay4 x0 x1 (View.ld x2 (Rect.unit (s := S4096x512) (k0_off1 i) S512x512.size (k0_off1_inb i)))
          (View.ld x3 (Rect.unit (s := S4096x128) (k0_off2 i) S512x128.size (k0_off2_inb i)))) (iota Kind.tc S1024x512 32 [0] iota_S1024x512_d0_w32) (k0_pay5 i)     (Scalar.muli (BitVec.ofNat 32 (i 1).val) 128#32) k0_pay6,
         k0_pay10 (k0_pay4 x0 x1 (View.ld x2 (Rect.unit (s := S4096x512) (k0_off1 i) S512x512.size (k0_off1_inb i)))
          (View.ld x3 (Rect.unit (s := S4096x128) (k0_off2 i) S512x128.size (k0_off2_inb i)))) (iota Kind.tc S1024x512 32 [0] iota_S1024x512_d0_w32) (k0_pay5 i)     (Scalar.muli (BitVec.ofNat 32 (i 1).val) 128#32) k0_pay6) ⟨k, hk⟩
    rw [trip_values, trip_store, h4, h5, load_full] at hst
    dsimp only at hst
    unfold loop1
    rw [hst, List.cons_append, List.nil_append, read_full]
    exact step s v x0 x1 _ _ (i 1).val (512 * k)
      (fun r j => (score_chunk x0 x1 x2 x3 _ _ _ _ _ (off3 i ⟨k, hk⟩) (off4 i ⟨k, hk⟩) r j (by show 512 * k + j.val < 4096; omega)).trans (hs r _))
      (fun j d => (chunk4 x2 _ _ _ (off3 i ⟨k, hk⟩) j d (by show 512 * k + j.val < 4096; omega)).trans (hv _ d))
      _ _ _ (ih (Nat.le_of_succ_le hk))

/-- The averages that a grid point makes. -/
theorem averages (c : Dev nD) (i : grid0.Coords) (arg2 : Memref sig .tc .vmem S8x128x512 .bf16) (harg2 : arg2.IsWhole) (arg3 : Memref sig .tc .vmem S8x128x128 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S8x512x128 .bf16) (harg6 : arg6.IsWhole) (arg7 : Memref sig .tc .vmem S1x1024 .f32) (harg7 : arg7.IsWhole) (arg8 : Memref sig .tc .vmem S128x1024 .bf16) (harg8 : arg8.IsWhole) (arg9 : Memref sig .tc .vmem S1024x512 .f32) (harg9 : arg9.IsWhole)
    (x0 : Vec Ideal S8x128x512 .bf16) (x1 : Vec Ideal S8x128x128 .bf16) (x2 : Vec Ideal S4096x512 .bf16) (x3 : Vec Ideal S4096x128 .bf16)
    (u : BitVec 32) (s v : ℕ → ℕ → ℝ) (hs : ∀ (r : Fin 1024) (j : Fin 4096), allScores x0 x1 x2 x3 r j = ((s r.val j.val : ℝ) : EReal))
    (hv : ∀ (j : Fin 4096) (d : Fin 512), x2 (ix2 j d) = ((v j.val d.val : ℝ) : EReal))
    (r : Fin 1024) (d : Fin 512) :
    k0_pay24 (loop2 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) (k0_t1_loop i).trips (k0_t2_loop i).trips).1.2
        (arg9.view.readCov ((loop2 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) (k0_t1_loop i).trips (k0_t2_loop i).trips).2
          ++ ((loop1 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) (k0_t1_loop i).trips).2
            ++ [store0 i (View.ld x2 (Rect.unit (s := S4096x512) (k0_off1 i) S512x512.size (k0_off1_inb i))) (k0_pay4 x0 x1 (View.ld x2 (Rect.unit (s := S4096x512) (k0_off1 i) S512x512.size (k0_off1_inb i)))
          (View.ld x3 (Rect.unit (s := S4096x128) (k0_off2 i) S512x128.size (k0_off2_inb i))))])) full.toLoadRect) (ix2 r d)
      = ((average (s r.val) (fun j => v j d.val) (hi (i 1).val r.val) : ℝ) : EReal) := by
  have hi := loop1_inv c i arg2 harg2 arg3 harg3 arg4 harg4 arg5 harg5 arg6 harg6 arg7 harg7 arg8 harg8 arg9 harg9 x0 x1 x2 x3 u s v hs hv (k0_t1_loop i).trips le_rfl
  have hl : 512 * (k0_t1_loop i).trips = lo (i 1).val := by rw [trips1]; rfl
  rw [hl] at hi
  rw [trips2]
  show k0_pay24 (loop1 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) (k0_t1_loop i).trips).1.2 (View.readAt (Elt Ideal) arg9.view full.toLoadRect
    (arg9.view.writes (Elt Ideal) arg9.view.junk ((loop1 c i arg2 harg2 arg3 harg3 arg4 harg4 arg5 harg5 arg6 harg6 arg7 harg7 arg8 harg8 arg9 harg9 (k0_pay2 x0) (k0_pay3 x1) u (View.ld x2 (Rect.unit (s := S4096x512) (k0_off1 i) S512x512.size (k0_off1_inb i)))
        (k0_pay4 x0 x1 (View.ld x2 (Rect.unit (s := S4096x512) (k0_off1 i) S512x512.size (k0_off1_inb i)))
          (View.ld x3 (Rect.unit (s := S4096x128) (k0_off2 i) S512x128.size (k0_off2_inb i))))
        (harg4.unread x2) (harg5.unread x3) (k0_t1_loop i).trips).2
            ++ [store0 i (View.ld x2 (Rect.unit (s := S4096x512) (k0_off1 i) S512x512.size (k0_off1_inb i))) (k0_pay4 x0 x1 (View.ld x2 (Rect.unit (s := S4096x512) (k0_off1 i) S512x512.size (k0_off1_inb i)))
          (View.ld x3 (Rect.unit (s := S4096x128) (k0_off2 i) S512x128.size (k0_off2_inb i))))]))) (ix2 r d) = _
  rw [load_full, View.writes_append]
  exact finish s v (i 1).val _ _ _ hi r d

end Cert.KernelIdeal.Value

end
-- ==== Proof.AttnKernel.lean ====
/-
  The eight stores of a grid point: every head's block of averages through its matrix, over the root mean square of the
  row of all heads, times the gain.
-/
module

public import proofs.«01_k».proof.Defs
public import proofs.«01_k».proof.Proof.Gen.KernelIdeal.Frame
public import proofs.«01_k».proof.Proof.AttnLoop
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Softmax

/-- Entry `e` of head `h` at position `p` of a grid point, from the averages `a`. -/
def headOut (a : FVec Ideal S1024x512 .bf16) (w : Vec Ideal S8x512x128 .bf16) (h : Fin 8) (p e : Fin 128) : EReal :=
  ∑ x : Fin 512, a (ix2 (⟨128 * h.val + p.val, by omega⟩ : Fin 1024) x) * w (ix3 h x e)

/-- The factor that norms position `p`. -/
def normOut (a : FVec Ideal S1024x512 .bf16) (w : Vec Ideal S8x512x128 .bf16) (p : Fin 128) : EReal :=
  Ideal.rsqrt (Ideal.div (∑ h : Fin 8, ∑ e : Fin 128, headOut a w h p e * headOut a w h p e) (Ideal.ofBits .f32 0x44800000#32)
    + Ideal.ofBits .f32 0x3727C5AC#32)

/-- Head 0 of a grid point. -/
theorem head0 (l : FVec Ideal S1024x1 .f32) (f : Vec Ideal S1024x512 .f32) (w : Vec Ideal S8x512x128 .bf16) (p e : Fin 128) :
    k0_pay25 l f (View.ld w (Rect.unit (s := S8x512x128) ![0, 0, 0] S1x512x128.size inb_S8x512x128_S1x512x128_0_0_0)) (ix2 p e)
      = headOut (k0_pay24 l f) w 0 p e := by
  pointwise [k0_pay25, headOut]

/-- Head 1 of a grid point. -/
theorem head1 (l : FVec Ideal S1024x1 .f32) (f : Vec Ideal S1024x512 .f32) (w : Vec Ideal S8x512x128 .bf16) (p e : Fin 128) :
    k0_pay26 l f (View.ld w (Rect.unit (s := S8x512x128) ![1, 0, 0] S1x512x128.size inb_S8x512x128_S1x512x128_1_0_0)) (ix2 p e)
      = headOut (k0_pay24 l f) w 1 p e := by
  pointwise [k0_pay26, headOut]

/-- Head 2 of a grid point. -/
theorem head2 (l : FVec Ideal S1024x1 .f32) (f : Vec Ideal S1024x512 .f32) (w : Vec Ideal S8x512x128 .bf16) (p e : Fin 128) :
    k0_pay28 (k0_pay27 l f) (View.ld w (Rect.unit (s := S8x512x128) ![2, 0, 0] S1x512x128.size inb_S8x512x128_S1x512x128_2_0_0)) (ix2 p e)
      = headOut (k0_pay24 l f) w 2 p e := by
  pointwise [k0_pay28, headOut, k0_pay27]

/-- Head 3 of a grid point. -/
theorem head3 (l : FVec Ideal S1024x1 .f32) (f : Vec Ideal S1024x512 .f32) (w : Vec Ideal S8x512x128 .bf16) (p e : Fin 128) :
    k0_pay29 (k0_pay24 l f) (View.ld w (Rect.unit (s := S8x512x128) ![3, 0, 0] S1x512x128.size inb_S8x512x128_S1x512x128_3_0_0)) (ix2 p e)
      = headOut (k0_pay24 l f) w 3 p e := by
  pointwise [k0_pay29, headOut]

/-- Head 4 of a grid point. -/
theorem head4 (l : FVec Ideal S1024x1 .f32) (f : Vec Ideal S1024x512 .f32) (w : Vec Ideal S8x512x128 .bf16) (p e : Fin 128) :
    k0_pay30 (k0_pay24 l f) (View.ld w (Rect.unit (s := S8x512x128) ![4, 0, 0] S1x512x128.size inb_S8x512x128_S1x512x128_4_0_0)) (ix2 p e)
      = headOut (k0_pay24 l f) w 4 p e := by
  pointwise [k0_pay30, headOut]

/-- Head 5 of a grid point. -/
theorem head5 (l : FVec Ideal S1024x1 .f32) (f : Vec Ideal S1024x512 .f32) (w : Vec Ideal S8x512x128 .bf16) (p e : Fin 128) :
    k0_pay31 (k0_pay24 l f) (View.ld w (Rect.unit (s := S8x512x128) ![5, 0, 0] S1x512x128.size inb_S8x512x128_S1x512x128_5_0_0)) (ix2 p e)
      = headOut (k0_pay24 l f) w 5 p e := by
  pointwise [k0_pay31, headOut]

/-- Head 6 of a grid point. -/
theorem head6 (l : FVec Ideal S1024x1 .f32) (f : Vec Ideal S1024x512 .f32) (w : Vec Ideal S8x512x128 .bf16) (p e : Fin 128) :
    k0_pay32 (k0_pay24 l f) (View.ld w (Rect.unit (s := S8x512x128) ![6, 0, 0] S1x512x128.size inb_S8x512x128_S1x512x128_6_0_0)) (ix2 p e)
      = headOut (k0_pay24 l f) w 6 p e := by
  pointwise [k0_pay32, headOut]

/-- Head 7 of a grid point. -/
theorem head7 (l : FVec Ideal S1024x1 .f32) (f : Vec Ideal S1024x512 .f32) (w : Vec Ideal S8x512x128 .bf16) (p e : Fin 128) :
    k0_pay33 (k0_pay24 l f) (View.ld w (Rect.unit (s := S8x512x128) ![7, 0, 0] S1x512x128.size inb_S8x512x128_S1x512x128_7_0_0)) (ix2 p e)
      = headOut (k0_pay24 l f) w 7 p e := by
  pointwise [k0_pay33, headOut]

/-- The factor of a row from the eight heads. -/
theorem factor_sum (l : FVec Ideal S1024x1 .f32) (f : Vec Ideal S1024x512 .f32) (w : Vec Ideal S8x512x128 .bf16) (p : Fin 128) :
    factor l f (View.ld w (Rect.unit (s := S8x512x128) ![0, 0, 0] S1x512x128.size inb_S8x512x128_S1x512x128_0_0_0))
      (View.ld w (Rect.unit (s := S8x512x128) ![1, 0, 0] S1x512x128.size inb_S8x512x128_S1x512x128_1_0_0))
      (View.ld w (Rect.unit (s := S8x512x128) ![2, 0, 0] S1x512x128.size inb_S8x512x128_S1x512x128_2_0_0))
      (View.ld w (Rect.unit (s := S8x512x128) ![3, 0, 0] S1x512x128.size inb_S8x512x128_S1x512x128_3_0_0))
      (View.ld w (Rect.unit (s := S8x512x128) ![4, 0, 0] S1x512x128.size inb_S8x512x128_S1x512x128_4_0_0))
      (View.ld w (Rect.unit (s := S8x512x128) ![5, 0, 0] S1x512x128.size inb_S8x512x128_S1x512x128_5_0_0))
      (View.ld w (Rect.unit (s := S8x512x128) ![6, 0, 0] S1x512x128.size inb_S8x512x128_S1x512x128_6_0_0))
      (View.ld w (Rect.unit (s := S8x512x128) ![7, 0, 0] S1x512x128.size inb_S8x512x128_S1x512x128_7_0_0)) (ix2 p 0)
      = normOut (k0_pay24 l f) w p := by
  pointwise [factor, squares, k0_pay35, k0_pay34]
  simp only [head0, head1, head2, head3, head4, head5, head6, head7]
  unfold normOut
  rw [Fin.sum_univ_eight]

/-- The stored tile of head 0. -/
theorem stored0 (l : FVec Ideal S1024x1 .f32) (f : Vec Ideal S1024x512 .f32) (w : Vec Ideal S8x512x128 .bf16) (g : Vec Ideal S1x1024 .f32) (p e : Fin 128) :
    k0_pay36 (k0_pay25 l f (View.ld w (Rect.unit (s := S8x512x128) ![0, 0, 0] S1x512x128.size inb_S8x512x128_S1x512x128_0_0_0))) (k0_pay29 (k0_pay24 l f) (View.ld w (Rect.unit (s := S8x512x128) ![3, 0, 0] S1x512x128.size inb_S8x512x128_S1x512x128_3_0_0))) (k0_pay30 (k0_pay24 l f) (View.ld w (Rect.unit (s := S8x512x128) ![4, 0, 0] S1x512x128.size inb_S8x512x128_S1x512x128_4_0_0))) (k0_pay31 (k0_pay24 l f) (View.ld w (Rect.unit (s := S8x512x128) ![5, 0, 0] S1x512x128.size inb_S8x512x128_S1x512x128_5_0_0))) (k0_pay32 (k0_pay24 l f) (View.ld w (Rect.unit (s := S8x512x128) ![6, 0, 0] S1x512x128.size inb_S8x512x128_S1x512x128_6_0_0))) (k0_pay33 (k0_pay24 l f) (View.ld w (Rect.unit (s := S8x512x128) ![7, 0, 0] S1x512x128.size inb_S8x512x128_S1x512x128_7_0_0))) (squares l f (View.ld w (Rect.unit (s := S8x512x128) ![0, 0, 0] S1x512x128.size inb_S8x512x128_S1x512x128_0_0_0)) (View.ld w (Rect.unit (s := S8x512x128) ![1, 0, 0] S1x512x128.size inb_S8x512x128_S1x512x128_1_0_0)) (View.ld w (Rect.unit (s := S8x512x128) ![2, 0, 0] S1x512x128.size inb_S8x512x128_S1x512x128_2_0_0))) (View.ld g (Rect.unit (s := S1x1024) ![0, 0] S1x128.size inb_S1x1024_S1x128_0_0)) (ix2 p e)
      = headOut (k0_pay24 l f) w 0 p e * normOut (k0_pay24 l f) w p * g (ix2 (0 : Fin 1) (⟨0 + e.val, by omega⟩ : Fin 1024)) := by
  rw [← head0 l f w p e, ← factor_sum l f w p]
  pointwise [k0_pay36]

/-- The stored tile of head 1. -/
theorem stored1 (l : FVec Ideal S1024x1 .f32) (f : Vec Ideal S1024x512 .f32) (w : Vec Ideal S8x512x128 .bf16) (g : Vec Ideal S1x1024 .f32) (p e : Fin 128) :
    k0_pay37 (k0_pay26 l f (View.ld w (Rect.unit (s := S8x512x128) ![1, 0, 0] S1x512x128.size inb_S8x512x128_S1x512x128_1_0_0))) (k0_pay29 (k0_pay24 l f) (View.ld w (Rect.unit (s := S8x512x128) ![3, 0, 0] S1x512x128.size inb_S8x512x128_S1x512x128_3_0_0))) (k0_pay30 (k0_pay24 l f) (View.ld w (Rect.unit (s := S8x512x128) ![4, 0, 0] S1x512x128.size inb_S8x512x128_S1x512x128_4_0_0))) (k0_pay31 (k0_pay24 l f) (View.ld w (Rect.unit (s := S8x512x128) ![5, 0, 0] S1x512x128.size inb_S8x512x128_S1x512x128_5_0_0))) (k0_pay32 (k0_pay24 l f) (View.ld w (Rect.unit (s := S8x512x128) ![6, 0, 0] S1x512x128.size inb_S8x512x128_S1x512x128_6_0_0))) (k0_pay33 (k0_pay24 l f) (View.ld w (Rect.unit (s := S8x512x128) ![7, 0, 0] S1x512x128.size inb_S8x512x128_S1x512x128_7_0_0))) (squares l f (View.ld w (Rect.unit (s := S8x512x128) ![0, 0, 0] S1x512x128.size inb_S8x512x128_S1x512x128_0_0_0)) (View.ld w (Rect.unit (s := S8x512x128) ![1, 0, 0] S1x512x128.size inb_S8x512x128_S1x512x128_1_0_0)) (View.ld w (Rect.unit (s := S8x512x128) ![2, 0, 0] S1x512x128.size inb_S8x512x128_S1x512x128_2_0_0))) (View.ld g (Rect.unit (s := S1x1024) ![0, 128] S1x128.size inb_S1x1024_S1x128_0_128)) (ix2 p e)
      = headOut (k0_pay24 l f) w 1 p e * normOut (k0_pay24 l f) w p * g (ix2 (0 : Fin 1) (⟨128 + e.val, by omega⟩ : Fin 1024)) := by
  rw [← head1 l f w p e, ← factor_sum l f w p]
  pointwise [k0_pay37]

/-- The stored tile of head 2. -/
theorem stored2 (l : FVec Ideal S1024x1 .f32) (f : Vec Ideal S1024x512 .f32) (w : Vec Ideal S8x512x128 .bf16) (g : Vec Ideal S1x1024 .f32) (p e : Fin 128) :
    k0_pay39 (k0_pay38 (k0_pay28 (k0_pay27 l f) (View.ld w (Rect.unit (s := S8x512x128) ![2, 0, 0] S1x512x128.size inb_S8x512x128_S1x512x128_2_0_0))) (k0_pay29 (k0_pay24 l f) (View.ld w (Rect.unit (s := S8x512x128) ![3, 0, 0] S1x512x128.size inb_S8x512x128_S1x512x128_3_0_0))) (k0_pay30 (k0_pay24 l f) (View.ld w (Rect.unit (s := S8x512x128) ![4, 0, 0] S1x512x128.size inb_S8x512x128_S1x512x128_4_0_0))) (k0_pay31 (k0_pay24 l f) (View.ld w (Rect.unit (s := S8x512x128) ![5, 0, 0] S1x512x128.size inb_S8x512x128_S1x512x128_5_0_0))) (k0_pay32 (k0_pay24 l f) (View.ld w (Rect.unit (s := S8x512x128) ![6, 0, 0] S1x512x128.size inb_S8x512x128_S1x512x128_6_0_0))) (k0_pay33 (k0_pay24 l f) (View.ld w (Rect.unit (s := S8x512x128) ![7, 0, 0] S1x512x128.size inb_S8x512x128_S1x512x128_7_0_0))) (squares l f (View.ld w (Rect.unit (s := S8x512x128) ![0, 0, 0] S1x512x128.size inb_S8x512x128_S1x512x128_0_0_0)) (View.ld w (Rect.unit (s := S8x512x128) ![1, 0, 0] S1x512x128.size inb_S8x512x128_S1x512x128_1_0_0)) (View.ld w (Rect.unit (s := S8x512x128) ![2, 0, 0] S1x512x128.size inb_S8x512x128_S1x512x128_2_0_0)))) (View.ld g (Rect.unit (s := S1x1024) ![0, 256] S1x128.size inb_S1x1024_S1x128_0_256)) (ix2 p e)
      = headOut (k0_pay24 l f) w 2 p e * normOut (k0_pay24 l f) w p * g (ix2 (0 : Fin 1) (⟨256 + e.val, by omega⟩ : Fin 1024)) := by
  rw [← head2 l f w p e, ← factor_sum l f w p]
  pointwise [k0_pay39, k0_pay38]

/-- The stored tile of head 3. -/
theorem stored3 (l : FVec Ideal S1024x1 .f32) (f : Vec Ideal S1024x512 .f32) (w : Vec Ideal S8x512x128 .bf16) (g : Vec Ideal S1x1024 .f32) (p e : Fin 128) :
    k0_pay40 (k0_pay29 (k0_pay24 l f) (View.ld w (Rect.unit (s := S8x512x128) ![3, 0, 0] S1x512x128.size inb_S8x512x128_S1x512x128_3_0_0))) (factor l f (View.ld w (Rect.unit (s := S8x512x128) ![0, 0, 0] S1x512x128.size inb_S8x512x128_S1x512x128_0_0_0)) (View.ld w (Rect.unit (s := S8x512x128) ![1, 0, 0] S1x512x128.size inb_S8x512x128_S1x512x128_1_0_0)) (View.ld w (Rect.unit (s := S8x512x128) ![2, 0, 0] S1x512x128.size inb_S8x512x128_S1x512x128_2_0_0)) (View.ld w (Rect.unit (s := S8x512x128) ![3, 0, 0] S1x512x128.size inb_S8x512x128_S1x512x128_3_0_0)) (View.ld w (Rect.unit (s := S8x512x128) ![4, 0, 0] S1x512x128.size inb_S8x512x128_S1x512x128_4_0_0)) (View.ld w (Rect.unit (s := S8x512x128) ![5, 0, 0] S1x512x128.size inb_S8x512x128_S1x512x128_5_0_0)) (View.ld w (Rect.unit (s := S8x512x128) ![6, 0, 0] S1x512x128.size inb_S8x512x128_S1x512x128_6_0_0)) (View.ld w (Rect.unit (s := S8x512x128) ![7, 0, 0] S1x512x128.size inb_S8x512x128_S1x512x128_7_0_0))) (View.ld g (Rect.unit (s := S1x1024) ![0, 384] S1x128.size inb_S1x1024_S1x128_0_384)) (ix2 p e)
      = headOut (k0_pay24 l f) w 3 p e * normOut (k0_pay24 l f) w p * g (ix2 (0 : Fin 1) (⟨384 + e.val, by omega⟩ : Fin 1024)) := by
  rw [← head3 l f w p e, ← factor_sum l f w p]
  pointwise [k0_pay40]

/-- The stored tile of head 4. -/
theorem stored4 (l : FVec Ideal S1024x1 .f32) (f : Vec Ideal S1024x512 .f32) (w : Vec Ideal S8x512x128 .bf16) (g : Vec Ideal S1x1024 .f32) (p e : Fin 128) :
    k0_pay41 (k0_pay30 (k0_pay24 l f) (View.ld w (Rect.unit (s := S8x512x128) ![4, 0, 0] S1x512x128.size inb_S8x512x128_S1x512x128_4_0_0))) (factor l f (View.ld w (Rect.unit (s := S8x512x128) ![0, 0, 0] S1x512x128.size inb_S8x512x128_S1x512x128_0_0_0)) (View.ld w (Rect.unit (s := S8x512x128) ![1, 0, 0] S1x512x128.size inb_S8x512x128_S1x512x128_1_0_0)) (View.ld w (Rect.unit (s := S8x512x128) ![2, 0, 0] S1x512x128.size inb_S8x512x128_S1x512x128_2_0_0)) (View.ld w (Rect.unit (s := S8x512x128) ![3, 0, 0] S1x512x128.size inb_S8x512x128_S1x512x128_3_0_0)) (View.ld w (Rect.unit (s := S8x512x128) ![4, 0, 0] S1x512x128.size inb_S8x512x128_S1x512x128_4_0_0)) (View.ld w (Rect.unit (s := S8x512x128) ![5, 0, 0] S1x512x128.size inb_S8x512x128_S1x512x128_5_0_0)) (View.ld w (Rect.unit (s := S8x512x128) ![6, 0, 0] S1x512x128.size inb_S8x512x128_S1x512x128_6_0_0)) (View.ld w (Rect.unit (s := S8x512x128) ![7, 0, 0] S1x512x128.size inb_S8x512x128_S1x512x128_7_0_0))) (View.ld g (Rect.unit (s := S1x1024) ![0, 512] S1x128.size inb_S1x1024_S1x128_0_512)) (ix2 p e)
      = headOut (k0_pay24 l f) w 4 p e * normOut (k0_pay24 l f) w p * g (ix2 (0 : Fin 1) (⟨512 + e.val, by omega⟩ : Fin 1024)) := by
  rw [← head4 l f w p e, ← factor_sum l f w p]
  pointwise [k0_pay41]

/-- The stored tile of head 5. -/
theorem stored5 (l : FVec Ideal S1024x1 .f32) (f : Vec Ideal S1024x512 .f32) (w : Vec Ideal S8x512x128 .bf16) (g : Vec Ideal S1x1024 .f32) (p e : Fin 128) :
    k0_pay42 (k0_pay31 (k0_pay24 l f) (View.ld w (Rect.unit (s := S8x512x128) ![5, 0, 0] S1x512x128.size inb_S8x512x128_S1x512x128_5_0_0))) (factor l f (View.ld w (Rect.unit (s := S8x512x128) ![0, 0, 0] S1x512x128.size inb_S8x512x128_S1x512x128_0_0_0)) (View.ld w (Rect.unit (s := S8x512x128) ![1, 0, 0] S1x512x128.size inb_S8x512x128_S1x512x128_1_0_0)) (View.ld w (Rect.unit (s := S8x512x128) ![2, 0, 0] S1x512x128.size inb_S8x512x128_S1x512x128_2_0_0)) (View.ld w (Rect.unit (s := S8x512x128) ![3, 0, 0] S1x512x128.size inb_S8x512x128_S1x512x128_3_0_0)) (View.ld w (Rect.unit (s := S8x512x128) ![4, 0, 0] S1x512x128.size inb_S8x512x128_S1x512x128_4_0_0)) (View.ld w (Rect.unit (s := S8x512x128) ![5, 0, 0] S1x512x128.size inb_S8x512x128_S1x512x128_5_0_0)) (View.ld w (Rect.unit (s := S8x512x128) ![6, 0, 0] S1x512x128.size inb_S8x512x128_S1x512x128_6_0_0)) (View.ld w (Rect.unit (s := S8x512x128) ![7, 0, 0] S1x512x128.size inb_S8x512x128_S1x512x128_7_0_0))) (View.ld g (Rect.unit (s := S1x1024) ![0, 640] S1x128.size inb_S1x1024_S1x128_0_640)) (ix2 p e)
      = headOut (k0_pay24 l f) w 5 p e * normOut (k0_pay24 l f) w p * g (ix2 (0 : Fin 1) (⟨640 + e.val, by omega⟩ : Fin 1024)) := by
  rw [← head5 l f w p e, ← factor_sum l f w p]
  pointwise [k0_pay42]

/-- The stored tile of head 6. -/
theorem stored6 (l : FVec Ideal S1024x1 .f32) (f : Vec Ideal S1024x512 .f32) (w : Vec Ideal S8x512x128 .bf16) (g : Vec Ideal S1x1024 .f32) (p e : Fin 128) :
    k0_pay43 (k0_pay32 (k0_pay24 l f) (View.ld w (Rect.unit (s := S8x512x128) ![6, 0, 0] S1x512x128.size inb_S8x512x128_S1x512x128_6_0_0))) (factor l f (View.ld w (Rect.unit (s := S8x512x128) ![0, 0, 0] S1x512x128.size inb_S8x512x128_S1x512x128_0_0_0)) (View.ld w (Rect.unit (s := S8x512x128) ![1, 0, 0] S1x512x128.size inb_S8x512x128_S1x512x128_1_0_0)) (View.ld w (Rect.unit (s := S8x512x128) ![2, 0, 0] S1x512x128.size inb_S8x512x128_S1x512x128_2_0_0)) (View.ld w (Rect.unit (s := S8x512x128) ![3, 0, 0] S1x512x128.size inb_S8x512x128_S1x512x128_3_0_0)) (View.ld w (Rect.unit (s := S8x512x128) ![4, 0, 0] S1x512x128.size inb_S8x512x128_S1x512x128_4_0_0)) (View.ld w (Rect.unit (s := S8x512x128) ![5, 0, 0] S1x512x128.size inb_S8x512x128_S1x512x128_5_0_0)) (View.ld w (Rect.unit (s := S8x512x128) ![6, 0, 0] S1x512x128.size inb_S8x512x128_S1x512x128_6_0_0)) (View.ld w (Rect.unit (s := S8x512x128) ![7, 0, 0] S1x512x128.size inb_S8x512x128_S1x512x128_7_0_0))) (View.ld g (Rect.unit (s := S1x1024) ![0, 768] S1x128.size inb_S1x1024_S1x128_0_768)) (ix2 p e)
      = headOut (k0_pay24 l f) w 6 p e * normOut (k0_pay24 l f) w p * g (ix2 (0 : Fin 1) (⟨768 + e.val, by omega⟩ : Fin 1024)) := by
  rw [← head6 l f w p e, ← factor_sum l f w p]
  pointwise [k0_pay43]

/-- The stored tile of head 7. -/
theorem stored7 (l : FVec Ideal S1024x1 .f32) (f : Vec Ideal S1024x512 .f32) (w : Vec Ideal S8x512x128 .bf16) (g : Vec Ideal S1x1024 .f32) (p e : Fin 128) :
    k0_pay1 (k0_pay44 (k0_pay33 (k0_pay24 l f) (View.ld w (Rect.unit (s := S8x512x128) ![7, 0, 0] S1x512x128.size inb_S8x512x128_S1x512x128_7_0_0))) (factor l f (View.ld w (Rect.unit (s := S8x512x128) ![0, 0, 0] S1x512x128.size inb_S8x512x128_S1x512x128_0_0_0)) (View.ld w (Rect.unit (s := S8x512x128) ![1, 0, 0] S1x512x128.size inb_S8x512x128_S1x512x128_1_0_0)) (View.ld w (Rect.unit (s := S8x512x128) ![2, 0, 0] S1x512x128.size inb_S8x512x128_S1x512x128_2_0_0)) (View.ld w (Rect.unit (s := S8x512x128) ![3, 0, 0] S1x512x128.size inb_S8x512x128_S1x512x128_3_0_0)) (View.ld w (Rect.unit (s := S8x512x128) ![4, 0, 0] S1x512x128.size inb_S8x512x128_S1x512x128_4_0_0)) (View.ld w (Rect.unit (s := S8x512x128) ![5, 0, 0] S1x512x128.size inb_S8x512x128_S1x512x128_5_0_0)) (View.ld w (Rect.unit (s := S8x512x128) ![6, 0, 0] S1x512x128.size inb_S8x512x128_S1x512x128_6_0_0)) (View.ld w (Rect.unit (s := S8x512x128) ![7, 0, 0] S1x512x128.size inb_S8x512x128_S1x512x128_7_0_0)))) (View.ld g (Rect.unit (s := S1x1024) ![0, 896] S1x128.size inb_S1x1024_S1x128_0_896)) (ix2 p e)
      = headOut (k0_pay24 l f) w 7 p e * normOut (k0_pay24 l f) w p * g (ix2 (0 : Fin 1) (⟨896 + e.val, by omega⟩ : Fin 1024)) := by
  rw [← head7 l f w p e, ← factor_sum l f w p]
  pointwise [k0_pay1, k0_pay44]

/-- A stored tile's entry as the entry of the whole block. -/
theorem entry_of (a : FVec Ideal S1024x512 .bf16) (w : Vec Ideal S8x512x128 .bf16) (g : Vec Ideal S1x1024 .f32)
    (h : Fin 8) (x : S128x128.Idx) (y : S128x1024.Idx) (k : Fin 1024) (hk : k.val = 128 * h.val + (x 1).val)
    (h0 : (y 0).val = (x 0).val) (h1 : (y 1).val = 128 * h.val + (x 1).val) (hl : (y 1).val / 128 < 8) :
    headOut a w h (x 0) (x 1) * normOut a w (x 0) * g (ix2 (0 : Fin 1) k)
      = headOut a w ⟨(y 1).val / 128, hl⟩ (y 0) ⟨(y 1).val % 128, Nat.mod_lt _ (by decide)⟩ * normOut a w (y 0) * g (ix2 (0 : Fin 1) (y 1)) := by
  have hx : (x 1).val < 128 := (x 1).isLt
  have e0 : y 0 = x 0 := Fin.ext h0
  have e1 : y 1 = k := Fin.ext (h1.trans hk.symm)
  have e2 : (⟨(y 1).val / 128, hl⟩ : Fin 8) = h := Fin.ext (by show (y 1).val / 128 = h.val; omega)
  have e3 : (⟨(y 1).val % 128, Nat.mod_lt _ (by decide)⟩ : Fin 128) = x 1 := Fin.ext (by show (y 1).val % 128 = (x 1).val; omega)
  rw [e2, e3, e0, e1]

/-- The stored tiles at an index. -/
theorem tiles_entry (l : FVec Ideal S1024x1 .f32) (f : Vec Ideal S1024x512 .f32) (w : Vec Ideal S8x512x128 .bf16) (g : Vec Ideal S1x1024 .f32)
    (y : S128x1024.Idx) (hl : (y 1).val / 128 < 8) :
    View.canon (tiles l f (View.ld w (Rect.unit (s := S8x512x128) ![0, 0, 0] S1x512x128.size inb_S8x512x128_S1x512x128_0_0_0))
      (View.ld w (Rect.unit (s := S8x512x128) ![1, 0, 0] S1x512x128.size inb_S8x512x128_S1x512x128_1_0_0))
      (View.ld w (Rect.unit (s := S8x512x128) ![2, 0, 0] S1x512x128.size inb_S8x512x128_S1x512x128_2_0_0))
      (View.ld w (Rect.unit (s := S8x512x128) ![3, 0, 0] S1x512x128.size inb_S8x512x128_S1x512x128_3_0_0))
      (View.ld w (Rect.unit (s := S8x512x128) ![4, 0, 0] S1x512x128.size inb_S8x512x128_S1x512x128_4_0_0))
      (View.ld w (Rect.unit (s := S8x512x128) ![5, 0, 0] S1x512x128.size inb_S8x512x128_S1x512x128_5_0_0))
      (View.ld w (Rect.unit (s := S8x512x128) ![6, 0, 0] S1x512x128.size inb_S8x512x128_S1x512x128_6_0_0))
      (View.ld w (Rect.unit (s := S8x512x128) ![7, 0, 0] S1x512x128.size inb_S8x512x128_S1x512x128_7_0_0))
      (View.ld g (Rect.unit (s := S1x1024) ![0, 0] S1x128.size inb_S1x1024_S1x128_0_0))
      (View.ld g (Rect.unit (s := S1x1024) ![0, 128] S1x128.size inb_S1x1024_S1x128_0_128))
      (View.ld g (Rect.unit (s := S1x1024) ![0, 256] S1x128.size inb_S1x1024_S1x128_0_256))
      (View.ld g (Rect.unit (s := S1x1024) ![0, 384] S1x128.size inb_S1x1024_S1x128_0_384))
      (View.ld g (Rect.unit (s := S1x1024) ![0, 512] S1x128.size inb_S1x1024_S1x128_0_512))
      (View.ld g (Rect.unit (s := S1x1024) ![0, 640] S1x128.size inb_S1x1024_S1x128_0_640))
      (View.ld g (Rect.unit (s := S1x1024) ![0, 768] S1x128.size inb_S1x1024_S1x128_0_768))
      (View.ld g (Rect.unit (s := S1x1024) ![0, 896] S1x128.size inb_S1x1024_S1x128_0_896))) y
      = headOut (k0_pay24 l f) w ⟨(y 1).val / 128, hl⟩ (y 0)
          ⟨(y 1).val % 128, Nat.mod_lt _ (by decide)⟩ * normOut (k0_pay24 l f) w (y 0) * g (ix2 (0 : Fin 1) (y 1)) := by
  canon_tiles x h
  · rw [eq_ix2 x]; exact (stored7 l f w g (x 0) (x 1)).trans (entry_of _ w g 7 x y _ rfl h0 h1 hl)
  · rw [eq_ix2 x]; exact (stored6 l f w g (x 0) (x 1)).trans (entry_of _ w g 6 x y _ rfl h0 h1 hl)
  · rw [eq_ix2 x]; exact (stored5 l f w g (x 0) (x 1)).trans (entry_of _ w g 5 x y _ rfl h0 h1 hl)
  · rw [eq_ix2 x]; exact (stored4 l f w g (x 0) (x 1)).trans (entry_of _ w g 4 x y _ rfl h0 h1 hl)
  · rw [eq_ix2 x]; exact (stored3 l f w g (x 0) (x 1)).trans (entry_of _ w g 3 x y _ rfl h0 h1 hl)
  · rw [eq_ix2 x]; exact (stored2 l f w g (x 0) (x 1)).trans (entry_of _ w g 2 x y _ rfl h0 h1 hl)
  · rw [eq_ix2 x]; exact (stored1 l f w g (x 0) (x 1)).trans (entry_of _ w g 1 x y _ rfl h0 h1 hl)
  · rw [eq_ix2 x]; exact (stored0 l f w g (x 0) (x 1)).trans (entry_of _ w g 0 x y _ rfl h0 (by rw [h1]; exact (Nat.zero_add _).symm) hl)

end Cert.KernelIdeal.Value

end
-- ==== Proof.AttnSpec.lean ====
/-
  What the attention call computes: for every query position and head the softmax average of the latent keys that are
  not after it, through the head's matrix, and the row of all heads over its root mean square times the gain.
-/
module

public import proofs.«01_k».proof.Defs
public import proofs.«01_k».proof.Proof.Gen.ReferenceIdeal
public import proofs.«01_k».proof.Proof.Softmax
public import Idealize.ShloMosaic.Lib.Pipeline.ValueKit

@[expose] public section

set_option maxRecDepth 16384

noncomputable section

open Idealize.ShloMosaic Idealize.ShloMosaic.TcCoe Idealize.SL.Sem

namespace Cert.Attention

open Cert.ReferenceIdeal Cert.Softmax

/-- The arguments of the attention call: the two parts of the queries, the latent keys, the rotated keys, the heads'
    matrices and the gain. -/
structure Args where
  ql : FVec Ideal S8x8704x512 .bf16
  qr : FVec Ideal S8x8704x128 .bf16
  ck : FVec Ideal S8704x512 .bf16
  kr : FVec Ideal S8704x128 .bf16
  w : FVec Ideal S8x512x128 .bf16
  g : FVec Ideal S1x1024 .f32

/-- A prompt row as a row of the arrays. -/
abbrev row (r : Fin 8192) : Fin 8704 := ⟨r.val, by omega⟩

/-- The score of query row `r` of head `h` against key row `k`. -/
def keyScore (A : Args) (r : Fin 8192) (h : Fin 8) (k : Fin 8192) : EReal :=
  ∑ x : Fin 512, A.ql (ix3 h (row r) x) * A.ck (ix2 (row k) x)
    + ∑ x : Fin 128, A.qr (ix3 h (row r) x) * A.kr (ix2 (row k) x)

/-- The real score of query row `r` of head `h` against key `j` of its sequence. -/
def realScore (A : Args) (r h j : ℕ) : ℝ :=
  (keyScore A (Fin.ofNat 8192 r) (Fin.ofNat 8 h) (Fin.ofNat 8192 (4096 * (r / 4096) + j))).toReal

/-- The real latent key `j` of the sequence of row `r`. -/
def realKey (A : Args) (r j d : ℕ) : ℝ :=
  (A.ck (ix2 (row (Fin.ofNat 8192 (4096 * (r / 4096) + j))) (Fin.ofNat 512 d))).toReal

/-- All scores and all latent keys are real. -/
structure Finite (A : Args) : Prop where
  score : ∀ r h k, keyScore A r h k = ((keyScore A r h k).toReal : EReal)
  key : ∀ (k : Fin 8192) d, A.ck (ix2 (row k) d) = ((A.ck (ix2 (row k) d)).toReal : EReal)

/-- The score of a key as the real score. -/
theorem Finite.score_eq {A : Args} (hA : Finite A) (r : Fin 8192) (h : Fin 8) (k : Fin 8192) (j : ℕ)
    (hk : k.val = 4096 * (r.val / 4096) + j) : keyScore A r h k = (realScore A r.val h.val j : EReal) := by
  have e : Fin.ofNat 8192 (4096 * (r.val / 4096) + j) = k := by rw [← hk]; exact Fin.ofNat_val_eq_self k
  unfold realScore
  rw [e, Fin.ofNat_val_eq_self, Fin.ofNat_val_eq_self]
  exact hA.score r h k

/-- A latent key as the real key. -/
theorem Finite.key_eq {A : Args} (hA : Finite A) (r k : Fin 8192) (j : ℕ) (d : Fin 512)
    (hk : k.val = 4096 * (r.val / 4096) + j) : A.ck (ix2 (row k) d) = (realKey A r.val j d.val : EReal) := by
  have e : Fin.ofNat 8192 (4096 * (r.val / 4096) + j) = k := by rw [← hk]; exact Fin.ofNat_val_eq_self k
  unfold realKey
  rw [e, Fin.ofNat_val_eq_self]
  exact hA.key k d

/-- The softmax average of the latent keys for row `r` of head `h`. -/
def latent (A : Args) (r : ℕ) (h : ℕ) (d : ℕ) : EReal :=
  ((average (realScore A r h) (fun j => realKey A r j d) (r % 4096 + 1) : ℝ) : EReal)

/-- Entry `e` of head `h` of row `r`. -/
def head (A : Args) (r : ℕ) (h : Fin 8) (e : Fin 128) : EReal :=
  ∑ x : Fin 512, latent A r h.val x.val * A.w (ix3 h x e)

/-- The factor that norms row `r`. -/
def norm (A : Args) (r : ℕ) : EReal :=
  Ideal.rsqrt (Ideal.div (∑ h : Fin 8, ∑ e : Fin 128, head A r h e * head A r h e) (Ideal.ofBits .f32 0x44800000#32)
    + Ideal.ofBits .f32 0x3727C5AC#32)

/-- The result at row `r` and column `k`. -/
def result (A : Args) (r : ℕ) (k : Fin 1024) : EReal :=
  head A r ⟨k.val / 128, by omega⟩ ⟨k.val % 128, by omega⟩ * norm A r * A.g (ix2 (0 : Fin 1) k)

end Cert.Attention

end
-- ==== Proof.AttnReference.lean ====
/-
  The reference computes the attention of `Cert.Attention` at every index.
-/
module

public import proofs.«01_k».proof.Defs
public import proofs.«01_k».proof.Proof.Gen.ReferenceIdeal.Run
public import proofs.«01_k».proof.Proof.AttnSpec
public import Idealize.ShloMosaic.Lib.Pipeline.ValueKit
public import Idealize.ShloMosaic.Lib.Pipeline.ReadBack
public import Idealize.ShloMosaic.Lib.Claim
public import Idealize.ShloMosaic.Lib.WordArith
public import Idealize.ShloMosaic.Lib.WordCmp
public import Idealize.ShloMosaic.Lib.KernelVsHost
public import Idealize.ShloMosaic.PureOps.Ideal.Laws

@[expose] public section

set_option maxRecDepth 16384

noncomputable section

open Idealize.ShloMosaic Idealize.ShloMosaic.TcCoe Idealize.SL.Sem

namespace Cert.ReferenceIdeal.Value

open Cert.Attention Cert.ReferenceIdeal Cert.ReferenceIdeal.Gen Cert.Softmax

/-- The masked scores. -/
def masked (A : Args) : FVec Ideal S2x8x4096x4096 .f32 :=
  select (broadcastInDim S2x8x4096x4096 ![2, 3] bcast_S4096x4096_S2x8x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (addf (Host.dotGeneral dot_S8x2x4096x512_S2x4096x512_S2x8x4096x4096_3_2_02_1_1_0 none
        (shapeCast _ (extf .f32 (extractStridedSlice S8x8192x512 ![0, 0, 0] A.ql slices_S8x8704x512_S8x8192x512_0_0_0) bitsLt_bf16_f32) shapeCasts_S8x8192x512_S8x2x4096x512)
        (shapeCast _ (extf .f32 (extractStridedSlice S8192x512 ![0, 0] A.ck slices_S8704x512_S8192x512_0_0) bitsLt_bf16_f32) shapeCasts_S8192x512_S2x4096x512))
      (Host.dotGeneral dot_S8x2x4096x128_S2x4096x128_S2x8x4096x4096_3_2_02_1_1_0 none
        (shapeCast _ (extf .f32 (extractStridedSlice S8x8192x128 ![0, 0, 0] A.qr slices_S8x8704x128_S8x8192x128_0_0_0) bitsLt_bf16_f32) shapeCasts_S8x8192x128_S8x2x4096x128)
        (shapeCast _ (extf .f32 (extractStridedSlice S8192x128 ![0, 0] A.kr slices_S8704x128_S8192x128_0_0) bitsLt_bf16_f32) shapeCasts_S8192x128_S2x4096x128)))
    (broadcastInDim S2x8x4096x4096 ![] bcast_S_S2x8x4096x4096 (id (constant S_ .f32 0xFF800000#32)))

/-- The maximum of every row. -/
def rowMax (f : FVec Ideal S2x8x4096x4096 .f32) : FVec Ideal S2x8x4096 .f32 :=
  Host.reduce FloatOps.maximumf f (constant S_ .f32 0xFF800000#32) reducesTo_S2x8x4096x4096_S2x8x4096_d3 h_S_

/-- The maximum of every row and of negative infinity. -/
def rowTop (f : FVec Ideal S2x8x4096x4096 .f32) : FVec Ideal S2x8x4096 .f32 :=
  maximumf (broadcastInDim S2x8x4096 ![] bcast_S_S2x8x4096 (constant S_ .f32 0xFF800000#32)) (rowMax f)

/-- The exponentials of the scores `f` less their row's maximum. -/
def weights (f : FVec Ideal S2x8x4096x4096 .f32) : FVec Ideal S2x8x4096x4096 .f32 :=
  Host.exp (subf f (broadcastInDim S2x8x4096x4096 ![0, 1, 2, 3] bcast_S2x8x4096x1_S2x8x4096x4096_0_1_2_3
    (broadcastInDim S2x8x4096x1 ![0, 1, 2] bcast_S2x8x4096_S2x8x4096x1_0_1_2 (rowTop f))))

/-- The weights `f` over their row's sum. -/
def shares (f : FVec Ideal S2x8x4096x4096 .f32) : FVec Ideal S2x8x4096x4096 .f32 :=
  Host.divf f (broadcastInDim S2x8x4096x4096 ![0, 1, 2, 3] bcast_S2x8x4096x1_S2x8x4096x4096_0_1_2_3
    (broadcastInDim S2x8x4096x1 ![0, 1, 2] bcast_S2x8x4096_S2x8x4096x1_0_1_2
      (Host.reduceAdd f (constant S_ .f32 0x00000000#32) reducesTo_S2x8x4096x4096_S2x8x4096_d3 h_S_)))

/-- The averages of the latent keys with the shares `f`. -/
def averages (A : Args) (f : FVec Ideal S2x8x4096x4096 .f32) : FVec Ideal S2x512x8x4096 .f32 :=
  Host.dotGeneral dot_S2x4096x512_S2x8x4096x4096_S2x512x8x4096_1_3_2_12_0_0 none
    (shapeCast _ (extf .f32 (extractStridedSlice S8192x512 ![0, 0] A.ck slices_S8704x512_S8192x512_0_0) bitsLt_bf16_f32) shapeCasts_S8192x512_S2x4096x512) f

/-- The rows of all heads, from the averages `f`. -/
def heads (A : Args) (f : FVec Ideal S2x512x8x4096 .f32) : FVec Ideal S8192x1024 .f32 :=
  shapeCast _ (transpose S2x4096x8x128 [2, 3, 0, 1]
    (Host.dotGeneral dot_S8x512x128_S2x4096x8x512_S8x128x2x4096_1_3_2_01_0_2 none (extf .f32 A.w bitsLt_bf16_f32)
      (transpose S2x4096x8x512 [0, 3, 2, 1] f transposes_S2x512x8x4096_S2x4096x8x512_0_3_2_1))
    transposes_S8x128x2x4096_S2x4096x8x128_2_3_0_1) shapeCasts_S2x4096x8x128_S8192x1024

/-- The rows `f` over their root mean square, times the gain. -/
def normed (A : Args) (f : FVec Ideal S8192x1024 .f32) : FVec Ideal S8192x1024 .bf16 :=
  truncf .bf16 (mulf (mulf f (broadcastInDim S8192x1024 ![0, 1] bcast_S8192x1_S8192x1024_0_1
    (Host.rsqrt (addf (Host.divf (broadcastInDim S8192x1 ![0] bcast_S8192_S8192x1_0
        (Host.reduceAdd (mulf f f) (constant S_ .f32 0x00000000#32) reducesTo_S8192x1024_S8192_d1 h_S_))
      (broadcastInDim S8192x1 ![] bcast_S_S8192x1 (constant S_ .f32 0x44800000#32)))
      (broadcastInDim S8192x1 ![] bcast_S_S8192x1 (constant S_ .f32 0x3727C5AC#32))))))
    (broadcastInDim S8192x1024 ![0, 1] bcast_S1x1024_S8192x1024_0_1 A.g)) bitsLt_bf16_f32

/-- A masked score. -/
theorem masked_entry (A : Args) (b : Fin 2) (h : Fin 8) (q k : Fin 4096) :
    masked A (ix4 b h q k) = if k.val < q.val + 1
      then keyScore A ⟨b.val * 4096 + q.val, by omega⟩ h ⟨b.val * 4096 + k.val, by omega⟩ else ⊥ := by
  pointwise [masked, keyScore]
  rw [WordCmp.cmpi_sle_ofNat (by omega) (by omega), WordCmp.select_ofBool]
  have e : (id (constant (F := Ideal) S_ FTy.f32 0xFF800000#32) ix0 : EReal) = ⊥ := by
    show Ideal.ofBits .f32 0xFF800000#32 = ⊥
    simp [Ideal.ofBits, Ideal.ieee]
  rw [e]
  simp only [decide_eq_true_eq, Nat.lt_succ_iff]

/-- The maximum of a row. -/
theorem rowMax_entry (f : FVec Ideal S2x8x4096x4096 .f32) (b : Fin 2) (h : Fin 8) (q : Fin 4096) :
    rowMax f (ix3 b h q) = Finset.fold max (⊥ : EReal) (fun k : Fin 4096 => f (ix4 b h q k)) Finset.univ := by
  unfold rowMax
  have hr : S2x8x4096x4096.Reduces [3] S2x8x4096 := by decide
  rw [hostReduce_maximumf_eq_multiReduction f 0xFF800000#32 _ _ hr (.inl rfl) rfl]
  refine (Ideal.multiReduction_maximumf_single f _ hr (.inl rfl) rfl (ix3 b h q)).trans ?_
  have e : (FloatOps.ofBits (F := Ideal) FTy.f32 (FKind.maximumf.neutral FTy.f32 (.inl rfl)) : EReal) = ⊥ := by
    show Ideal.ofBits .f32 0xFF800000#32 = ⊥
    simp [Ideal.ofBits, Ideal.ieee]
  rw [e]
  refine congrArg (fun g => Finset.fold max (⊥ : EReal) g Finset.univ) (funext fun k => congrArg f (funext fun a => ?_))
  fin_cases a <;> rfl

/-- The maximum with negative infinity at an index. -/
theorem max_entry (v : FVec Ideal S2x8x4096 .f32) (j : S2x8x4096.Idx) :
    maximumf (broadcastInDim S2x8x4096 ![] bcast_S_S2x8x4096 (constant S_ .f32 0xFF800000#32)) v j
      = max (Ideal.ofBits .f32 0xFF800000#32) (v j) := by
  pointwise []

/-- The maximum of a row and of negative infinity. -/
theorem rowTop_entry (f : FVec Ideal S2x8x4096x4096 .f32) (j : S2x8x4096.Idx) :
    rowTop f j = max (Ideal.ofBits .f32 0xFF800000#32) (rowMax f j) := by
  exact max_entry (rowMax f) j

/-- A weight. -/
theorem weights_entry (f : FVec Ideal S2x8x4096x4096 .f32) (b : Fin 2) (h : Fin 8) (q k : Fin 4096) :
    weights f (ix4 b h q k) = Ideal.exp (f (ix4 b h q k) - rowTop f (ix3 b h q)) := by
  pointwise [weights]

/-- A share. -/
theorem shares_entry (f : FVec Ideal S2x8x4096x4096 .f32) (b : Fin 2) (h : Fin 8) (q k : Fin 4096) :
    shares f (ix4 b h q k) = Ideal.div (f (ix4 b h q k)) (∑ x : Fin 4096, f (ix4 b h q x)) := by
  pointwise [shares]

/-- An average. -/
theorem averages_entry (A : Args) (f : FVec Ideal S2x8x4096x4096 .f32) (b : Fin 2) (d : Fin 512) (h : Fin 8) (q : Fin 4096) :
    averages A f (ix4 b d h q) = ∑ k : Fin 4096, A.ck (ix2 (row ⟨b.val * 4096 + k.val, by omega⟩) d) * f (ix4 b h q k) := by
  pointwise [averages]

/-- An entry of a head. -/
theorem heads_entry (A : Args) (f : FVec Ideal S2x512x8x4096 .f32) (r : Fin 8192) (k : Fin 1024) :
    heads A f (ix2 r k) = ∑ x : Fin 512, A.w (ix3 (⟨k.val / 128, by omega⟩ : Fin 8) x (⟨k.val % 128, by omega⟩ : Fin 128))
      * f (ix4 (⟨r.val / 4096, by omega⟩ : Fin 2) x (⟨k.val / 128, by omega⟩ : Fin 8) (⟨r.val % 4096, by omega⟩ : Fin 4096)) := by
  pointwise [heads]

/-- A normed entry. -/
theorem normed_entry (A : Args) (f : FVec Ideal S8192x1024 .f32) (r : Fin 8192) (k : Fin 1024) :
    normed A f (ix2 r k) = f (ix2 r k) * Ideal.rsqrt (Ideal.div (∑ x : Fin 1024, f (ix2 r x) * f (ix2 r x)) (Ideal.ofBits .f32 0x44800000#32)
    + Ideal.ofBits .f32 0x3727C5AC#32) * A.g (ix2 (0 : Fin 1) k) := by
  pointwise [normed]

/-- The averages are the softmax averages. -/
theorem averages_latent (A : Args) (hA : Finite A) (b : Fin 2) (d : Fin 512) (h : Fin 8) (q : Fin 4096) (r : ℕ)
    (hr : r = b.val * 4096 + q.val) :
    averages A (shares (weights (masked A))) (ix4 b d h q) = latent A r h.val d.val := by
  have hq : r % 4096 = q.val := by omega
  have hb : r / 4096 = b.val := by omega
  have hf : ∀ k : Fin 4096, masked A (ix4 b h q k)
      = if k.val < q.val + 1 then ((realScore A r h.val k.val : ℝ) : EReal) else ⊥ := fun k => by
    rw [masked_entry, hA.score_eq _ h _ k.val (by show b.val * 4096 + k.val = 4096 * ((b.val * 4096 + q.val) / 4096) + k.val; omega)]
    subst hr; rfl
  obtain ⟨M, hM⟩ := fold_max_real (fun k : Fin 4096 => masked A (ix4 b h q k))
    (fun k => by
      rw [hf]; split
      · exact EReal.coe_ne_top _
      · exact bot_ne_top)
    0 (by rw [hf, if_pos (by show 0 < q.val + 1; omega)]; exact EReal.coe_ne_bot _)
  have hw : ∀ k : Fin 4096, weights (masked A) (ix4 b h q k) = Ideal.exp (masked A (ix4 b h q k) - (M : EReal)) := fun k => by
    have e : Ideal.ofBits .f32 0xFF800000#32 = (⊥ : EReal) := by simp [Ideal.ofBits, Ideal.ieee]
    rw [weights_entry, rowTop_entry, rowMax_entry, hM, e, max_eq_right bot_le]
  have hk : ∀ k : Fin 4096, A.ck (ix2 (row ⟨b.val * 4096 + k.val, by omega⟩) d) = ((realKey A r k.val d.val : ℝ) : EReal) := fun k => by
    rw [hA.key_eq ⟨r, by omega⟩ _ k.val d (by show b.val * 4096 + k.val = 4096 * (r / 4096) + k.val; omega)]
  rw [averages_entry]
  simp only [shares_entry, hw, hk]
  rw [reference_row (realScore A r h.val) (fun j => realKey A r j d.val) (q.val + 1) 4096 (Nat.succ_pos _) (by omega) M _ hf]
  unfold latent
  rw [hq]

/-- An entry of a head is the attention's. -/
theorem heads_head (A : Args) (hA : Finite A) (r : Fin 8192) (k : Fin 1024) :
    heads A (averages A (shares (weights (masked A)))) (ix2 r k)
      = head A r.val ⟨k.val / 128, by omega⟩ ⟨k.val % 128, by omega⟩ := by
  rw [heads_entry]
  unfold head
  refine Finset.sum_congr rfl fun x _ => ?_
  rw [averages_latent A hA _ x _ _ r.val (by show r.val = r.val / 4096 * 4096 + r.val % 4096; omega), mul_comm]

/-- The reference at an index. -/
theorem reference_entry (A : Args) (hA : Finite A) (r : Fin 8192) (k : Fin 1024) :
    normed A (heads A (averages A (shares (weights (masked A))))) (ix2 r k) = result A r.val k := by
  rw [normed_entry]
  simp only [heads_head A hA]
  unfold result Attention.norm
  congr 4
  symm
  refine congrArg (fun z => Ideal.div z _) (Fin.sum_mul_add_congr fun h e hl => ?_)
  have e1 : (⟨(h.val * 128 + e.val) / 128, by omega⟩ : Fin 8) = h := Fin.ext (by show (h.val * 128 + e.val) / 128 = h.val; omega)
  have e2 : (⟨(h.val * 128 + e.val) % 128, by omega⟩ : Fin 128) = e := Fin.ext (by show (h.val * 128 + e.val) % 128 = e.val; omega)
  show head A r.val h e * head A r.val h e = head A r.val (⟨(h.val * 128 + e.val) / 128, _⟩ : Fin 8) (⟨(h.val * 128 + e.val) % 128, _⟩ : Fin 128)
    * head A r.val (⟨(h.val * 128 + e.val) / 128, _⟩ : Fin 8) (⟨(h.val * 128 + e.val) % 128, _⟩ : Fin 128)
  rw [e1, e2]

/-- The reference's arguments. -/
def argsOf (m : (ℓ : Loc nD τ sig) → Buf (Elt Ideal) ℓ) (c : Dev nD) : Args where
  ql := m ((c.tc : Thread nD τ).loc main_arg0)
  qr := m ((c.tc : Thread nD τ).loc main_arg1)
  ck := m ((c.tc : Thread nD τ).loc main_arg2)
  kr := m ((c.tc : Thread nD τ).loc main_arg3)
  w := m ((c.tc : Thread nD τ).loc main_arg4)
  g := m ((c.tc : Thread nD τ).loc main_arg5)

/-- The reference's result. -/
theorem reference_result (m : (ℓ : Loc nD τ sig) → Buf (Elt Ideal) ℓ) (c : Dev nD) :
    res_main_v51 m c = normed (argsOf m c) (heads (argsOf m c) (averages (argsOf m c) (shares (weights (masked (argsOf m c)))))) := by
  unfold res_main_v51 normed heads averages shares weights rowTop rowMax masked argsOf
  rfl

end Cert.ReferenceIdeal.Value

end
-- ==== Proof.AttnPre.lean ====
/-
  The precondition read back: where the prompt rows of the queries and keys are below infinity in size, every score and
  every latent key is real.
-/
module

public import proofs.«01_k».proof.Defs
public import proofs.«01_k».proof.Proof.Gen.Pre_finite
public import proofs.«01_k».proof.Proof.AttnReference
public import Idealize.ShloMosaic.Lib.ReduceAll
public import Idealize.ShloMosaic.Lib.Pipeline.ValueKit

@[expose] public section

set_option maxRecDepth 16384

noncomputable section

open Idealize.ShloMosaic Idealize.ShloMosaic.TcCoe Idealize.SL.Sem

namespace Cert.Attention

/-- A number below infinity in size is real. -/
theorem real_of_below (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  have hl : max x (-x) < ⊤ := (Ideal.cmp_olt_eq_one _ _).1 h
  refine (EReal.coe_toReal ?_ ?_).symm
  · rintro rfl; simp at hl
  · rintro rfl; simp at hl

/-- A sum of products of real numbers is real. -/
theorem real_sum {n : ℕ} (a b : Fin n → EReal) (ha : ∀ x, a x = (((a x).toReal : ℝ) : EReal))
    (hb : ∀ x, b x = (((b x).toReal : ℝ) : EReal)) : ∑ x, a x * b x = ((∑ x, (a x).toReal * (b x).toReal : ℝ) : EReal) := by
  rw [Softmax.coe_sum]
  refine Finset.sum_congr rfl fun x _ => ?_
  rw [EReal.coe_mul, ← ha x, ← hb x]

/-- The four arrays are real at every prompt row. -/
structure Real (A : Args) : Prop where
  ql : ∀ (h : Fin 8) (r : Fin 8192) (x : Fin 512), A.ql (ix3 h (row r) x) = (((A.ql (ix3 h (row r) x) : EReal).toReal : ℝ) : EReal)
  qr : ∀ (h : Fin 8) (r : Fin 8192) (x : Fin 128), A.qr (ix3 h (row r) x) = (((A.qr (ix3 h (row r) x) : EReal).toReal : ℝ) : EReal)
  ck : ∀ (k : Fin 8192) (x : Fin 512), A.ck (ix2 (row k) x) = (((A.ck (ix2 (row k) x) : EReal).toReal : ℝ) : EReal)
  kr : ∀ (k : Fin 8192) (x : Fin 128), A.kr (ix2 (row k) x) = (((A.kr (ix2 (row k) x) : EReal).toReal : ℝ) : EReal)

/-- Real arrays give real scores. -/
theorem Real.finite {A : Args} (hA : Real A) : Finite A where
  score r h k := by
    unfold keyScore
    rw [real_sum _ _ (fun x => hA.ql h r x) (fun x => hA.ck k x), real_sum _ _ (fun x => hA.qr h r x) (fun x => hA.kr k x),
      ← EReal.coe_add, EReal.toReal_coe]
  key := hA.ck

/-- A slice's index in the whole array, three axes. -/
theorem slice3 {n : ℕ} (v : FVec Ideal ⟨3, ![8, 8704, n]⟩ .bf16) (hs : Shape.Slices ⟨3, ![8, 8704, n]⟩ ![0, 0, 0] ⟨3, ![8, 8192, n]⟩)
    (h : Fin 8) (r : Fin 8192) (x : Fin n) :
    extractStridedSlice ⟨3, ![8, 8192, n]⟩ ![0, 0, 0] v hs (ix3 h r x) = v (ix3 h (row r) x) := by
  refine congrArg v (funext fun a => Fin.ext ?_)
  fin_cases a <;> simp [ix3, row]

/-- A slice's index in the whole array, two axes. -/
theorem slice2 {n : ℕ} (v : FVec Ideal ⟨2, ![8704, n]⟩ .bf16) (hs : Shape.Slices ⟨2, ![8704, n]⟩ ![0, 0] ⟨2, ![8192, n]⟩)
    (r : Fin 8192) (x : Fin n) :
    extractStridedSlice ⟨2, ![8192, n]⟩ ![0, 0] v hs (ix2 r x) = v (ix2 (row r) x) := by
  refine congrArg v (funext fun a => Fin.ext ?_)
  fin_cases a <;> simp [ix2, row]

/-- The precondition makes the arrays real. -/
theorem real_of_ones (A : Args)
    (h : Cert.Pre_finite.fn (F := Ideal) A.ql A.qr A.ck A.kr A.w A.g = fun _ => 1#1) : Real A := by
  have h0 := congrFun h (Shape.Idx.first (s := Cert.Pre_finite.S_) Cert.Pre_finite.Gen.h_S_)
  dsimp only [Cert.Pre_finite.fn, Cert.Pre_finite.fn_part1] at h0
  obtain ⟨h1, hkr⟩ := IntOp.andi_eq_one.1 h0
  obtain ⟨h2, hck⟩ := IntOp.andi_eq_one.1 h1
  obtain ⟨hql, hqr⟩ := IntOp.andi_eq_one.1 h2
  have : Subsingleton Cert.Pre_finite.S_.Idx := ⟨fun a b => funext fun i => i.elim0⟩
  refine ⟨fun a r x => ?_, fun a r x => ?_, fun k x => ?_, fun k x => ?_⟩
  · have e := Host.reduce_andi_all _ _ _ _ _ hql (ix3 a r x)
    rw [← slice3 A.ql Cert.Pre_finite.Gen.slices_S8x8704x512_S8x8192x512_0_0_0 a r x]
    exact real_of_below _ e
  · have e := Host.reduce_andi_all _ _ _ _ _ hqr (ix3 a r x)
    rw [← slice3 A.qr Cert.Pre_finite.Gen.slices_S8x8704x128_S8x8192x128_0_0_0 a r x]
    exact real_of_below _ e
  · have e := Host.reduce_andi_all _ _ _ _ _ hck (ix2 k x)
    rw [← slice2 A.ck Cert.Pre_finite.Gen.slices_S8704x512_S8192x512_0_0 k x]
    exact real_of_below _ e
  · have e := Host.reduce_andi_all _ _ _ _ _ hkr (ix2 k x)
    rw [← slice2 A.kr Cert.Pre_finite.Gen.slices_S8704x128_S8192x128_0_0 k x]
    exact real_of_below _ e

end Cert.Attention

end
-- ==== Proof.AttnValue.lean ====
/-
  The attention kernel's value: at every grid point the tile it stores is the named result at the tile's rows, from
  the blocks of the arguments that the grid point reads.
-/
module

public import proofs.«01_k».proof.Defs
public import proofs.«01_k».proof.Proof.Gen.KernelIdeal.Frame
public import proofs.«01_k».proof.Proof.Gen.ReferenceIdeal.Run
public import proofs.«01_k».proof.Proof.AttnKernel
public import proofs.«01_k».proof.Proof.AttnPre
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Attention Cert.Softmax

variable (m : (ℓ : Loc nD τ sig) → Buf (Elt Ideal) ℓ)

/-- The kernel's arguments. -/
def argsOf (c : Dev nD) : Args where
  ql := m ((c : Thread nD τ).loc main_arg0)
  qr := m ((c : Thread nD τ).loc main_arg1)
  ck := m ((c : Thread nD τ).loc main_arg2)
  kr := m ((c : Thread nD τ).loc main_arg3)
  w := m ((c : Thread nD τ).loc main_arg4)
  g := m ((c : Thread nD τ).loc main_arg5)

/-- Where each window's block sits, at every grid point: query tiles one after another, a sequence's keys whole. -/
theorem placement : ∀ t : Fin cfg0.N, win0_0.index t = ![0, t.val, 0] ∧ win0_1.index t = ![0, t.val, 0]
    ∧ win0_2.index t = ![t.val / 32, 0] ∧ win0_3.index t = ![t.val / 32, 0] ∧ win0_4.index t = ![0, 0, 0]
    ∧ win0_5.index t = ![0, 0] ∧ win0_6.index t = ![t.val, 0] ∧ t.val < 64 :=
  (by decide +kernel : ∀ t : Fin grid0.N, _)

/-- The tile of a grid point within its sequence. -/
theorem tile_coord : ∀ t : Fin cfg0.N, (grid0.coords t 1).val = t.val % 32 :=
  (by decide +kernel : ∀ t : Fin grid0.N, _)

/-- A row of a grid point's tile as a prompt row. -/
abbrev tileRow (t : Fin cfg0.N) (p : Fin 128) : Fin 8192 := ⟨128 * t.val + p.val, by have := (placement t).2.2.2.2.2.2.2; omega⟩

/-- A key of a grid point's sequence as a prompt row. -/
abbrev keyRow (t : Fin cfg0.N) (j : Fin 4096) : Fin 8192 := ⟨4096 * (t.val / 32) + j.val, by have := (placement t).2.2.2.2.2.2.2; omega⟩

/-- The query block of a grid point. -/
theorem ql_block (c : Dev nD) (t : Fin cfg0.N) (h : Fin 8) (p : Fin 128) (x : Fin 512) :
    iblk m c 0 t (ix3 h p x) = (argsOf m c).ql (ix3 h (row (tileRow t p)) x) := by
  unfold argsOf
  blk_point [iblk, V, placement t]

/-- The rotated query block of a grid point. -/
theorem qr_block (c : Dev nD) (t : Fin cfg0.N) (h : Fin 8) (p : Fin 128) (x : Fin 128) :
    iblk m c 1 t (ix3 h p x) = (argsOf m c).qr (ix3 h (row (tileRow t p)) x) := by
  unfold argsOf
  blk_point [iblk, V, placement t]

/-- The latent keys of a grid point. -/
theorem ck_block (c : Dev nD) (t : Fin cfg0.N) (j : Fin 4096) (x : Fin 512) :
    X0_2 m c t (ix2 j x) = (argsOf m c).ck (ix2 (row (keyRow t j)) x) := by
  unfold argsOf X0_2 Pipeline.Window.fill
  rw [dif_pos (moved0_2 t _)]
  blk_point [iblk, V, placement t]

/-- The rotated keys of a grid point. -/
theorem kr_block (c : Dev nD) (t : Fin cfg0.N) (j : Fin 4096) (x : Fin 128) :
    X0_3 m c t (ix2 j x) = (argsOf m c).kr (ix2 (row (keyRow t j)) x) := by
  unfold argsOf X0_3 Pipeline.Window.fill
  rw [dif_pos (moved0_3 t _)]
  blk_point [iblk, V, placement t]

/-- The heads' matrices at a grid point. -/
theorem w_block (c : Dev nD) (t : Fin cfg0.N) (h : Fin 8) (x : Fin 512) (e : Fin 128) :
    iblk m c 4 t (ix3 h x e) = (argsOf m c).w (ix3 h x e) := by
  unfold argsOf
  blk_point [iblk, V, placement t]

/-- The gain at a grid point. -/
theorem g_block (c : Dev nD) (t : Fin cfg0.N) (k : Fin 1024) :
    iblk m c 5 t (ix2 (0 : Fin 1) k) = (argsOf m c).g (ix2 (0 : Fin 1) k) := by
  unfold argsOf
  blk_point [iblk, V, placement t]

/-- The scores that a grid point makes. -/
theorem tile_scores (c : Dev nD) (hA : Finite (argsOf m c)) (t : Fin cfg0.N) (r : Fin 1024) (j : Fin 4096) :
    allScores (iblk m c 0 t) (iblk m c 1 t) (X0_2 m c t) (X0_3 m c t) r j
      = ((realScore (argsOf m c) (128 * t.val + r.val % 128) (r.val / 128) j.val : ℝ) : EReal) := by
  have ht := (placement t).2.2.2.2.2.2.2
  refine Eq.trans ?_ (hA.score_eq (tileRow t ⟨r.val % 128, by omega⟩) ⟨r.val / 128, by omega⟩ (keyRow t j) j.val
    (by show 4096 * (t.val / 32) + j.val = 4096 * ((128 * t.val + r.val % 128) / 4096) + j.val; omega))
  unfold allScores keyScore
  simp only [ql_block, qr_block, ck_block, kr_block]

/-- The latent keys that a grid point reads, as real numbers. -/
theorem tile_keys (c : Dev nD) (hA : Finite (argsOf m c)) (t : Fin cfg0.N) (j : Fin 4096) (d : Fin 512) :
    X0_2 m c t (ix2 j d) = ((realKey (argsOf m c) (128 * t.val) j.val d.val : ℝ) : EReal) := by
  have ht := (placement t).2.2.2.2.2.2.2
  rw [ck_block]
  exact hA.key_eq (tileRow t 0) (keyRow t j) j.val d
    (by show 4096 * (t.val / 32) + j.val = 4096 * ((128 * t.val + 0) / 4096) + j.val; omega)

/-- A grid point's average as the row's latent. -/
theorem tile_latent (A : Args) (t : Fin cfg0.N) (r : Fin 1024) (d : Fin 512) :
    ((average (realScore A (128 * t.val + r.val % 128) (r.val / 128)) (fun j => realKey A (128 * t.val) j d.val)
      (hi (grid0.coords t 1).val r.val) : ℝ) : EReal) = latent A (128 * t.val + r.val % 128) (r.val / 128) d.val := by
  have ht := (placement t).2.2.2.2.2.2.2
  have e1 : hi (grid0.coords t 1).val r.val = (128 * t.val + r.val % 128) % 4096 + 1 := by
    rw [tile_coord t]; unfold hi; omega
  have e2 : ∀ j, realKey A (128 * t.val) j d.val = realKey A (128 * t.val + r.val % 128) j d.val := fun j => by
    unfold realKey
    rw [show (128 * t.val + r.val % 128) / 4096 = 128 * t.val / 4096 by omega]
  unfold latent
  rw [e1]
  simp only [e2]

/-- A head's entry from a grid point's averages. -/
theorem tile_head (c : Dev nD) (t : Fin cfg0.N) (a : FVec Ideal S1024x512 .bf16)
    (ha : ∀ (r : Fin 1024) (d : Fin 512), a (ix2 r d) = latent (argsOf m c) (128 * t.val + r.val % 128) (r.val / 128) d.val)
    (h : Fin 8) (p e : Fin 128) : headOut a (iblk m c 4 t) h p e = head (argsOf m c) (128 * t.val + p.val) h e := by
  unfold headOut head
  refine Finset.sum_congr rfl fun x _ => ?_
  rw [ha, w_block]
  dsimp only
  rw [show (128 * h.val + p.val) % 128 = p.val by omega, show (128 * h.val + p.val) / 128 = h.val by omega]

/-- The named result from a grid point's averages. -/
theorem tile_result (c : Dev nD) (t : Fin cfg0.N) (a : FVec Ideal S1024x512 .bf16)
    (ha : ∀ (r : Fin 1024) (d : Fin 512), a (ix2 r d) = latent (argsOf m c) (128 * t.val + r.val % 128) (r.val / 128) d.val)
    (p : Fin 128) (k : Fin 1024) (hk : k.val / 128 < 8) :
    headOut a (iblk m c 4 t) ⟨k.val / 128, hk⟩ p ⟨k.val % 128, Nat.mod_lt _ (by decide)⟩ * normOut a (iblk m c 4 t) p
      * iblk m c 5 t (ix2 (0 : Fin 1) k) = result (argsOf m c) (128 * t.val + p.val) k := by
  unfold normOut result Attention.norm
  simp only [tile_head m c t a ha, g_block]

/-- One entry of the tile that a grid point stores. -/
theorem tile_entry (c : Dev nD) (hA : Finite (argsOf m c)) (t : Fin cfg0.N) (y : S128x1024.Idx) :
    outsAt0 m c t y = result (argsOf m c) (128 * t.val + (y 0).val) (y 1) := by
  have hk : (y 1).val / 128 < 8 := by have := (y 1).isLt; simp at this; omega
  obtain ⟨u, hu⟩ := run_tiles (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) (iblk m c 0 t) (iblk m c 1 t) (X0_2 m c t) (X0_3 m c t) (iblk m c 4 t) (iblk m c 5 t)
  unfold outsAt0 out0_A_6
  rw [View.read_writes_junk_eq_canon, hu, tiles_entry _ _ _ _ y hk]
  refine tile_result m c t _ (fun r d => ?_) (y 0) (y 1) hk
  rw [averages c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    scM0_0 (Memref.isWhole_whole _) (iblk m c 0 t) (iblk m c 1 t) (X0_2 m c t) (X0_3 m c t) u
    (fun r j => realScore (argsOf m c) (128 * t.val + r % 128) (r / 128) j) (fun j d => realKey (argsOf m c) (128 * t.val) j d)
    (tile_scores m c hA t) (tile_keys m c hA t) r d]
  exact tile_latent (argsOf m c) t r d

/-- The named result as an array. -/
def attention (A : Args) : FVec Ideal S8192x1024 .bf16 := fun y => result A (y 0).val (y 1)

/-- Where a grid point's tile sits in the result. -/
theorem out_place (t : Fin cfg0.N) (f : S8192x1024.Idx → EReal) (y : S128x1024.Idx) :
    f ((win0_6.blk t).view.emb y) = f (ix2 (tileRow t (y 0)) (y 1)) := by
  blk_point [placement t]

/-- The result array after the run. -/
theorem result_array (c : Dev nD) (hA : Finite (argsOf m c)) : (dats m 0 c).arrAt 6 (cfgs 0).N = attention (argsOf m c) := by
  refine (dats m 0 c).arrAt_eq_of_covers 6 _ (by decide +kernel) fun t _ y => ?_
  blk_simp
  rw [after0_6]
  exact (tile_entry m c hA t y).trans (out_place t (attention (argsOf m c)) y).symm

/-- The reference's result array. -/
theorem reference_array (A : Args) (hA : Finite A) :
    Cert.ReferenceIdeal.Value.normed A (Cert.ReferenceIdeal.Value.heads A (Cert.ReferenceIdeal.Value.averages A
      (Cert.ReferenceIdeal.Value.shares (Cert.ReferenceIdeal.Value.weights (Cert.ReferenceIdeal.Value.masked A))))) = attention A := by
  funext y
  rw [eq_ix2 y]
  exact Cert.ReferenceIdeal.Value.reference_entry A hA (y 0) (y 1)

end Cert.KernelIdeal.Value

namespace Cert.Proof

/-- The attention kernel and its reference end with equal results. -/
theorem attn_value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · run_from Cert.ReferenceIdeal.Value.run m' g'
    have hA : Cert.Attention.Finite (Cert.KernelIdeal.Value.argsOf m c) :=
      (Cert.Attention.real_of_ones (Cert.KernelIdeal.Value.argsOf m c) (hpre c)).finite
    rw [Cert.ReferenceIdeal.Value.reference_result m' c, Cert.KernelIdeal.Value.result_array m c hA]
    have e : Cert.ReferenceIdeal.Value.argsOf m' c = Cert.KernelIdeal.Value.argsOf m c := by
      obtain ⟨h0, h1, h2, h3, h4, h5⟩ := hagree c
      unfold Cert.ReferenceIdeal.Value.argsOf Cert.KernelIdeal.Value.argsOf
      rw [h0, h1, h2, h3, h4, h5]
    rw [e]
    exact Cert.KernelIdeal.Value.reference_array _ hA

end Cert.Proof

end
-- ==== Proof.lean ====
/-
  The claims of this certificate, brought together: every program runs, leaves its arguments as they were and every
  semaphore counter at zero; the idealized programs are the printed ones (the attention's with its mask constant
  named); and every idealized kernel ends with its reference's results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpReferenceIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InReferenceIdeal
public import proofs.«01_k».proof.Proof.Gen.KernelIdeal.Value
public import proofs.«01_k».proof.Proof.Gen.UpIdeal.Value
public import proofs.«01_k».proof.Proof.Gen.DownIdeal.Value
public import proofs.«01_k».proof.Proof.Gen.OutIdeal.Value
public import proofs.«01_k».proof.Proof.Gen.InIdeal.Value
public import proofs.«01_k».proof.Proof.Gen.ReferenceIdeal.Run
public import proofs.«01_k».proof.Proof.Gen.UpReferenceIdeal.Run
public import proofs.«01_k».proof.Proof.Gen.DownReferenceIdeal.Run
public import proofs.«01_k».proof.Proof.Gen.OutReferenceIdeal.Run
public import proofs.«01_k».proof.Proof.Gen.InReferenceIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostReferenceIdeal
public import proofs.«01_k».proof.Proof.Gen.PostReferenceIdeal.Run
public import Idealize.ShloMosaic.Adequacy
public import proofs.«01_k».proof.Proof.UpValue
public import proofs.«01_k».proof.Proof.DownValue
public import proofs.«01_k».proof.Proof.OutValue
public import proofs.«01_k».proof.Proof.InValue
public import proofs.«01_k».proof.Proof.PostFrame
public import proofs.«01_k».proof.Proof.PostIdealFrame
public import proofs.«01_k».proof.Proof.PostValue
public import proofs.«01_k».proof.Proof.AttnValue
public import Idealize.ShloMosaic.Init
public import proofs.«01_k».proof.Proof.Gen.Pre_finite

@[expose] public section

noncomputable section

namespace Cert.Proof

open Idealize.ShloMosaic Idealize.SL.Sem

/-- The reference of the attention runs and changes no argument. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- The reference of the first half of the MLP runs and changes no argument. -/
theorem frame_UpReferenceIdeal : Cert.quiescent_UpReferenceIdeal (hUpReferenceIdeal := Cert.UpReferenceIdeal.Gen.facts) := fun m ρ _ =>
  (θ_run Cert.UpReferenceIdeal.defs _ _).mono (fun r h => ⟨fun c => (h c).2,
    Idealize.ShloMosaic.sem_eq_zero_of_no_sems (by decide) r.2⟩) (Cert.UpReferenceIdeal.Value.run (F := Ideal) m ρ)

/-- The reference of the second half of the MLP runs and changes no argument. -/
theorem frame_DownReferenceIdeal : Cert.quiescent_DownReferenceIdeal (hDownReferenceIdeal := Cert.DownReferenceIdeal.Gen.facts) := fun m ρ _ =>
  (θ_run Cert.DownReferenceIdeal.defs _ _).mono (fun r h => ⟨fun c => (h c).2.2,
    Idealize.ShloMosaic.sem_eq_zero_of_no_sems (by decide) r.2⟩) (Cert.DownReferenceIdeal.Value.run (F := Ideal) m ρ)

/-- The reference of the output projection runs and changes no argument. -/
theorem frame_OutReferenceIdeal : Cert.quiescent_OutReferenceIdeal (hOutReferenceIdeal := Cert.OutReferenceIdeal.Gen.facts) := fun m ρ _ =>
  (θ_run Cert.OutReferenceIdeal.defs _ _).mono (fun r h => ⟨fun c => (h c).2.2,
    Idealize.ShloMosaic.sem_eq_zero_of_no_sems (by decide) r.2⟩) (Cert.OutReferenceIdeal.Value.run (F := Ideal) m ρ)

/-- The reference of the input projection runs and changes no argument. -/
theorem frame_InReferenceIdeal : Cert.quiescent_InReferenceIdeal (hInReferenceIdeal := Cert.InReferenceIdeal.Gen.facts) := fun m ρ _ =>
  (θ_run Cert.InReferenceIdeal.defs _ _).mono (fun r h => ⟨fun c => (h c).2,
    Idealize.ShloMosaic.sem_eq_zero_of_no_sems (by decide) r.2⟩) (Cert.InReferenceIdeal.Value.run (F := Ideal) m ρ)

/-- The reference of the rows made from the input projection runs and changes no argument. -/
theorem frame_PostReferenceIdeal : Cert.quiescent_PostReferenceIdeal (hPostReferenceIdeal := Cert.PostReferenceIdeal.Gen.facts) := fun m ρ _ =>
  (θ_run Cert.PostReferenceIdeal.defs _ _).mono (fun r h => ⟨fun c => (h c).2.2.2.2.2.2.2.2.2.2.2.2.2.2,
    Idealize.ShloMosaic.sem_eq_zero_of_no_sems (by decide) r.2⟩) (Cert.PostReferenceIdeal.Value.run (F := Ideal) m ρ)

/-- The attention's idealization names its mask constant and changes nothing else. -/
theorem mask_named : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts, Cert.Up.Gen.facts, Cert.UpIdeal.Gen.facts, Cert.UpReferenceIdeal.Gen.facts, Cert.Down.Gen.facts, Cert.DownIdeal.Gen.facts, Cert.DownReferenceIdeal.Gen.facts, Cert.Out.Gen.facts, Cert.OutIdeal.Gen.facts, Cert.OutReferenceIdeal.Gen.facts, Cert.In.Gen.facts, Cert.InIdeal.Gen.facts, Cert.InReferenceIdeal.Gen.facts, Cert.Post.Gen.facts, Cert.PostIdeal.Gen.facts, Cert.PostReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Up.Gen.frame m ρ,
  fun m ρ _ => Cert.UpIdeal.Gen.frame m ρ,
  frame_UpReferenceIdeal,
  fun m ρ _ => Cert.Down.Gen.frame m ρ,
  fun m ρ _ => Cert.DownIdeal.Gen.frame m ρ,
  frame_DownReferenceIdeal,
  fun m ρ _ => Cert.Out.Gen.frame m ρ,
  fun m ρ _ => Cert.OutIdeal.Gen.frame m ρ,
  frame_OutReferenceIdeal,
  fun m ρ _ => Cert.In.Gen.frame m ρ,
  fun m ρ _ => Cert.InIdeal.Gen.frame m ρ,
  frame_InReferenceIdeal,
  fun m ρ _ => Cert.Post.Split.frame m ρ,
  fun m ρ _ => Cert.PostIdeal.Split.frame m ρ,
  frame_PostReferenceIdeal,
  mask_named,
  attn_value,
  trivial,
  trivial,
  trivial,
  trivial,
  trivial,
  up_value,
  down_value,
  out_value,
  in_value,
  post_value⟩

end Cert.Proof

end
